-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 8192]⟩ : Shape).Idx, (Layout.block ⟨2, ![1024, 8192]⟩ ⟨2, ![4096, 8192]⟩ 0 4 c ((Cert.On_in_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 8192]⟩ : Shape).Idx → _) i = 1#1 → r.2.mem ((c.tc : Thread Cert.KernelIdeal.nD Cert.KernelIdeal.τ).loc Cert.KernelIdeal.main_v1) i = (Layout.block ⟨2, ![1024, 8192]⟩ ⟨2, ![4096, 8192]⟩ 0 4 c v0 : (⟨2, ![1024, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_in_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hUnclippedIdeal : Cert.UnclippedIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_UnclippedIdeal (hUnclippedIdeal := hUnclippedIdeal)
    ∧ quiescent_ReferenceIdeal (hReferenceIdeal := hReferenceIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_in_range (hKernelIdeal := hKernelIdeal) (hReferenceIdeal := hReferenceIdeal) (hOn_in_range := hOn_in_range)
-- ==== On_in_range.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  main_v5
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S4x2x1024x512 : Shape := ⟨4, ![4, 2, 1024, 512]⟩
abbrev S2x512x2048 : Shape := ⟨3, ![2, 512, 2048]⟩
abbrev S4x2 : Shape := ⟨2, ![4, 2]⟩
abbrev S2 : Shape := ⟨1, ![2]⟩
abbrev S_ : Shape := ⟨0, ![]⟩
abbrev S1x1 : Shape := ⟨2, ![1, 1]⟩
abbrev S1x1x1024x512 : Shape := ⟨4, ![1, 1, 1024, 512]⟩
abbrev S1024x512 : Shape := ⟨2, ![1024, 512]⟩
abbrev S1 : Shape := ⟨1, ![1]⟩
abbrev S1x512x2048 : Shape := ⟨3, ![1, 512, 2048]⟩
abbrev S512x2048 : Shape := ⟨2, ![512, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S1024x8192, .f32⟩
  | .local _ .vmem, ⟨1, _⟩ => ⟨S4x2x1024x512, .f32⟩
  | .local _ .vmem, ⟨2, _⟩ => ⟨S2x512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let c0_i32_45 : BitVec 32 := 0#32
  ![v54.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_41 : BitVec 32 := 1#32
  let v55 : BitVec 32 := Scalar.muli v53 c1_i32_41
  let v56 : BitVec 32 := Scalar.addi c0_i32_42 v55
  v56.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v64 : BitVec 32 := Scalar.addi v2 c3_i32_46
  let c4_i32_47 : BitVec 32 := 4#32
  let c0_i32_48 : BitVec 32 := 0#32
  let v65 : BitVec 1 := Scalar.cmpi .eq c4_i32_47 c0_i32_48
  let c1_i32_49 : BitVec 32 := 1#32
  let v66 : BitVec 32 := Scalar.select v65 c1_i32_49 c4_i32_47
  let v67 : BitVec 32 := Scalar.remsi v64 v66
  let c0_i32_51 : BitVec 32 := 0#32
  let v69 : BitVec 1 := Scalar.cmpi .slt v67 c0_i32_51
  let c0_i32_52 : BitVec 32 := 0#32
  let v70 : BitVec 1 := Scalar.cmpi .slt v66 c0_i32_52
  let v71 : BitVec 1 := Scalar.xori v69 v70
  let c0_i32_50 : BitVec 32 := 0#32
  let v68 : BitVec 1 := Scalar.cmpi .ne v67 c0_i32_50
  let v72 : BitVec 1 := Scalar.andi v71 v68
  let v73 : BitVec 32 := Scalar.addi v67 v66
  let v74 : BitVec 32 := Scalar.select v72 v73 v67
  let c1_i32_60 : BitVec 32 := 1#32
  let v76 : BitVec 32 := Scalar.muli v74 c1_i32_60
  let v77 : BitVec 32 := Scalar.addi c0_i32_61 v76
  v77.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v85 : BitVec 32 := Scalar.addi v2 c2_i32_65
  let c4_i32_66 : BitVec 32 := 4#32
  let c0_i32_67 : BitVec 32 := 0#32
  let v86 : BitVec 1 := Scalar.cmpi .eq c4_i32_66 c0_i32_67
  let c1_i32_68 : BitVec 32 := 1#32
  let v87 : BitVec 32 := Scalar.select v86 c1_i32_68 c4_i32_66
  let v88 : BitVec 32 := Scalar.remsi v85 v87
  let c0_i32_70 : BitVec 32 := 0#32
  let v90 : BitVec 1 := Scalar.cmpi .slt v88 c0_i32_70
  let c0_i32_71 : BitVec 32 := 0#32
  let v91 : BitVec 1 := Scalar.cmpi .slt v87 c0_i32_71
  let v92 : BitVec 1 := Scalar.xori v90 v91
  let c0_i32_69 : BitVec 32 := 0#32
  let v89 : BitVec 1 := Scalar.cmpi .ne v88 c0_i32_69
  let v93 : BitVec 1 := Scalar.andi v92 v89
  let v94 : BitVec 32 := Scalar.addi v88 v87
  let v95 : BitVec 32 := Scalar.select v93 v94 v88
  let c1_i32_79 : BitVec 32 := 1#32
  let v97 : BitVec 32 := Scalar.muli v95 c1_i32_79
  let v98 : BitVec 32 := Scalar.addi c0_i32_80 v97
  v98.toNat
def k0_off2 (d0 : Dev nD) (c1_i32_84 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c1_i32_84
  let c4_i32_85 : BitVec 32 := 4#32
  let c0_i32_86 : BitVec 32 := 0#32
  let v107 : BitVec 1 := Scalar.cmpi .eq c4_i32_85 c0_i32_86
  let c1_i32_87 : BitVec 32 := 1#32
  let v108 : BitVec 32 := Scalar.select v107 c1_i32_87 c4_i32_85
  let v109 : BitVec 32 := Scalar.remsi v106 v108
  let c0_i32_89 : BitVec 32 := 0#32
  let v111 : BitVec 1 := Scalar.cmpi .slt v109 c0_i32_89
  let c0_i32_90 : BitVec 32 := 0#32
  let v112 : BitVec 1 := Scalar.cmpi .slt v108 c0_i32_90
  let v113 : BitVec 1 := Scalar.xori v111 v112
  let c0_i32_88 : BitVec 32 := 0#32
  let v110 : BitVec 1 := Scalar.cmpi .ne v109 c0_i32_88
  let v114 : BitVec 1 := Scalar.andi v113 v110
  let v115 : BitVec 32 := Scalar.addi v109 v108
  let v116 : BitVec 32 := Scalar.select v114 v115 v109
  let c1024_i32_91 : BitVec 32 := 1024#32
  let v117 : BitVec 32 := Scalar.muli v116 c1024_i32_91
  let c512_i32 : BitVec 32 := 512#32
  ![v117.toNat, 512]
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v106 : BitVec 32 := Scalar.addi v2 c1_i32_84
  let c4_i32_85 : BitVec 32 := 4#32
  let c0_i32_86 : BitVec 32 := 0#32
  let v107 : BitVec 1 := Scalar.cmpi .eq c4_i32_85 c0_i32_86
  let c1_i32_87 : BitVec 32 := 1#32
  let v108 : BitVec 32 := Scalar.select v107 c1_i32_87 c4_i32_85
  let v109 : BitVec 32 := Scalar.remsi v106 v108
  let c0_i32_89 : BitVec 32 := 0#32
  let v111 : BitVec 1 := Scalar.cmpi .slt v109 c0_i32_89
  let c0_i32_90 : BitVec 32 := 0#32
  let v112 : BitVec 1 := Scalar.cmpi .slt v108 c0_i32_90
  let v113 : BitVec 1 := Scalar.xori v111 v112
  let c0_i32_88 : BitVec 32 := 0#32
  let v110 : BitVec 1 := Scalar.cmpi .ne v109 c0_i32_88
  let v114 : BitVec 1 := Scalar.andi v113 v110
  let v115 : BitVec 32 := Scalar.addi v109 v108
  let v116 : BitVec 32 := Scalar.select v114 v115 v109
  let c1_i32_98 : BitVec 32 := 1#32
  let v118 : BitVec 32 := Scalar.muli v116 c1_i32_98
  let v119 : BitVec 32 := Scalar.addi c0_i32_99 v118
  v119.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v127 : BitVec 32 := Scalar.addi v2 c3_i32_102
  let c4_i32_103 : BitVec 32 := 4#32
  let c0_i32_104 : BitVec 32 := 0#32
  let v128 : BitVec 1 := Scalar.cmpi .eq c4_i32_103 c0_i32_104
  let c1_i32_105 : BitVec 32 := 1#32
  let v129 : BitVec 32 := Scalar.select v128 c1_i32_105 c4_i32_103
  let v130 : BitVec 32 := Scalar.remsi v127 v129
  let c0_i32_107 : BitVec 32 := 0#32
  let v132 : BitVec 1 := Scalar.cmpi .slt v130 c0_i32_107
  let c0_i32_108 : BitVec 32 := 0#32
  let v133 : BitVec 1 := Scalar.cmpi .slt v129 c0_i32_108
  let v134 : BitVec 1 := Scalar.xori v132 v133
  let c0_i32_106 : BitVec 32 := 0#32
  let v131 : BitVec 1 := Scalar.cmpi .ne v130 c0_i32_106
  let v135 : BitVec 1 := Scalar.andi v134 v131
  let v136 : BitVec 32 := Scalar.addi v130 v129
  let v137 : BitVec 32 := Scalar.select v135 v136 v130
  let c1_i32_116 : BitVec 32 := 1#32
  let v139 : BitVec 32 := Scalar.muli v137 c1_i32_116
  let v140 : BitVec 32 := Scalar.addi c0_i32_117 v139
  v140.toNat
def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_121 : BitVec 32 := 2#32
  let v148 : BitVec 32 := Scalar.addi v2 c2_i32_121
  let c4_i32_122 : BitVec 32 := 4#32
  let c0_i32_123 : BitVec 32 := 0#32
  let v149 : BitVec 1 := Scalar.cmpi .eq c4_i32_122 c0_i32_123
  let c1_i32_124 : BitVec 32 := 1#32
  let v150 : BitVec 32 := Scalar.select v149 c1_i32_124 c4_i32_122
  let v151 : BitVec 32 := Scalar.remsi v148 v150
  let c0_i32_126 : BitVec 32 := 0#32
  let v153 : BitVec 1 := Scalar.cmpi .slt v151 c0_i32_126
  let c0_i32_127 : BitVec 32 := 0#32
  let v154 : BitVec 1 := Scalar.cmpi .slt v150 c0_i32_127
  let v155 : BitVec 1 := Scalar.xori v153 v154
  let c0_i32_125 : BitVec 32 := 0#32
  let v152 : BitVec 1 := Scalar.cmpi .ne v151 c0_i32_125
  let v156 : BitVec 1 := Scalar.andi v155 v152
  let v157 : BitVec 32 := Scalar.addi v151 v150
  let v158 : BitVec 32 := Scalar.select v156 v157 v151
  let c1_i32_135 : BitVec 32 := 1#32
  let v160 : BitVec 32 := Scalar.muli v158 c1_i32_135
  let v161 : BitVec 32 := Scalar.addi c0_i32_136 v160
  v161.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_140 : BitVec 32 := 1024#32
  let v169 : BitVec 32 := Scalar.muli v2 c1024_i32_140
  let c0_i32_147 : BitVec 32 := 0#32
  ![v169.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_148 : BitVec 32 := 1024#32
  let v175 : BitVec 32 := Scalar.muli v2 c1024_i32_148
  let c512_i32_155 : BitVec 32 := 512#32
  ![v175.toNat, 512]
def k0_off5 (d0 : Dev nD) (c0_i32_156 : BitVec 32) (c0_i32_164 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v181 : BitVec 32 := Scalar.subi v2 c0_i32_156
  let c4_i32_157 : BitVec 32 := 4#32
  let c0_i32_158 : BitVec 32 := 0#32
  let v182 : BitVec 1 := Scalar.cmpi .eq c4_i32_157 c0_i32_158
  let c1_i32_159 : BitVec 32 := 1#32
  let v183 : BitVec 32 := Scalar.select v182 c1_i32_159 c4_i32_157
  let v184 : BitVec 32 := Scalar.remsi v181 v183
  let c0_i32_161 : BitVec 32 := 0#32
  let v186 : BitVec 1 := Scalar.cmpi .slt v184 c0_i32_161
  let c0_i32_162 : BitVec 32 := 0#32
  let v187 : BitVec 1 := Scalar.cmpi .slt v183 c0_i32_162
  let v188 : BitVec 1 := Scalar.xori v186 v187
  let c0_i32_160 : BitVec 32 := 0#32
  let v185 : BitVec 1 := Scalar.cmpi .ne v184 c0_i32_160
  let v189 : BitVec 1 := Scalar.andi v188 v185
  let v190 : BitVec 32 := Scalar.addi v184 v183
  let v191 : BitVec 32 := Scalar.select v189 v190 v184
  let c1024_i32_163 : BitVec 32 := 1024#32
  let v192 : BitVec 32 := Scalar.muli v191 c1024_i32_163
  let v193 : BitVec 32 := Scalar.addi v192 c0_i32_164
  let c0_i32_169 : BitVec 32 := 0#32
  ![v193.toNat, 0]
def k0_off6 (d0 : Dev nD) (c0_i32_170 : BitVec 32) (c0_i32_178 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v199 : BitVec 32 := Scalar.subi v2 c0_i32_170
  let c4_i32_171 : BitVec 32 := 4#32
  let c0_i32_172 : BitVec 32 := 0#32
  let v200 : BitVec 1 := Scalar.cmpi .eq c4_i32_171 c0_i32_172
  let c1_i32_173 : BitVec 32 := 1#32
  let v201 : BitVec 32 := Scalar.select v200 c1_i32_173 c4_i32_171
  let v202 : BitVec 32 := Scalar.remsi v199 v201
  let c0_i32_175 : BitVec 32 := 0#32
  let v204 : BitVec 1 := Scalar.cmpi .slt v202 c0_i32_175
  let c0_i32_176 : BitVec 32 := 0#32
  let v205 : BitVec 1 := Scalar.cmpi .slt v201 c0_i32_176
  let v206 : BitVec 1 := Scalar.xori v204 v205
  let c0_i32_174 : BitVec 32 := 0#32
  let v203 : BitVec 1 := Scalar.cmpi .ne v202 c0_i32_174
  let v207 : BitVec 1 := Scalar.andi v206 v203
  let v208 : BitVec 32 := Scalar.addi v202 v201
  let v209 : BitVec 32 := Scalar.select v207 v208 v202
  let c1024_i32_177 : BitVec 32 := 1024#32
  let v210 : BitVec 32 := Scalar.muli v209 c1024_i32_177
  let v211 : BitVec 32 := Scalar.addi v210 c0_i32_178
  let c2048_i32 : BitVec 32 := 2048#32
  ![v211.toNat, 2048]
def k0_off7 (d0 : Dev nD) (c0_i32_203 : BitVec 32) (c0_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v233 : BitVec 32 := Scalar.subi v2 c0_i32_203
  let c4_i32_204 : BitVec 32 := 4#32
  let c0_i32_205 : BitVec 32 := 0#32
  let v234 : BitVec 1 := Scalar.cmpi .eq c4_i32_204 c0_i32_205
  let c1_i32_206 : BitVec 32 := 1#32
  let v235 : BitVec 32 := Scalar.select v234 c1_i32_206 c4_i32_204
  let v236 : BitVec 32 := Scalar.remsi v233 v235
  let c0_i32_208 : BitVec 32 := 0#32
  let v238 : BitVec 1 := Scalar.cmpi .slt v236 c0_i32_208
  let c0_i32_209 : BitVec 32 := 0#32
  let v239 : BitVec 1 := Scalar.cmpi .slt v235 c0_i32_209
  let v240 : BitVec 1 := Scalar.xori v238 v239
  let c0_i32_207 : BitVec 32 := 0#32
  let v237 : BitVec 1 := Scalar.cmpi .ne v236 c0_i32_207
  let v241 : BitVec 1 := Scalar.andi v240 v237
  let v242 : BitVec 32 := Scalar.addi v236 v235
  let v243 : BitVec 32 := Scalar.select v241 v242 v236
  let c1024_i32_210 : BitVec 32 := 1024#32
  let v244 : BitVec 32 := Scalar.muli v243 c1024_i32_210
  let v245 : BitVec 32 := Scalar.addi v244 c0_i32_211
  let c4096_i32 : BitVec 32 := 4096#32
  ![v245.toNat, 4096]
def k0_off8 (d0 : Dev nD) (c0_i32_229 : BitVec 32) (c0_i32_237 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v262 : BitVec 32 := Scalar.subi v2 c0_i32_229
  let c4_i32_230 : BitVec 32 := 4#32
  let c0_i32_231 : BitVec 32 := 0#32
  let v263 : BitVec 1 := Scalar.cmpi .eq c4_i32_230 c0_i32_231
  let c1_i32_232 : BitVec 32 := 1#32
  let v264 : BitVec 32 := Scalar.select v263 c1_i32_232 c4_i32_230
  let v265 : BitVec 32 := Scalar.remsi v262 v264
  let c0_i32_234 : BitVec 32 := 0#32
  let v267 : BitVec 1 := Scalar.cmpi .slt v265 c0_i32_234
  let c0_i32_235 : BitVec 32 := 0#32
  let v268 : BitVec 1 := Scalar.cmpi .slt v264 c0_i32_235
  let v269 : BitVec 1 := Scalar.xori v267 v268
  let c0_i32_233 : BitVec 32 := 0#32
  let v266 : BitVec 1 := Scalar.cmpi .ne v265 c0_i32_233
  let v270 : BitVec 1 := Scalar.andi v269 v266
  let v271 : BitVec 32 := Scalar.addi v265 v264
  let v272 : BitVec 32 := Scalar.select v270 v271 v265
  let c1024_i32_236 : BitVec 32 := 1024#32
  let v273 : BitVec 32 := Scalar.muli v272 c1024_i32_236
  let v274 : BitVec 32 := Scalar.addi v273 c0_i32_237
  let c6144_i32 : BitVec 32 := 6144#32
  ![v274.toNat, 6144]
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Flat.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-! # The kernel's body written straight

The printed body comes in forty-six pieces. Here it is one straight line of named operations: three
barrier signals and the barrier wait, six remote copies, two local copies, the first two block fetches of
the second operand, then thirty-two multiply-and-accumulate steps, and the six waits for the sends. The two
are equal by unfolding (`body_flat`). -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Memrefs, rectangles, semaphores -/

/-- The first operand's columns on this device, the second operand whole, the result's staging buffer, the landing
    buffer of four by two slots, the two fetch buffers. -/
abbrev xM : Memref sig .tc .hbm S4096x1024 .f32 := Memref.whole main_arg0
abbrev wM : Memref sig .tc .hbm S4096x8192 .f32 := Memref.whole main_arg1
abbrev oM : Memref sig .tc .vmem S1024x8192 .f32 := Memref.whole cc0_stg0_0
abbrev cM : Memref sig .tc .vmem S4x2x1024x512 .f32 := Memref.whole cc0_scratch0
abbrev bM : Memref sig .tc .vmem S2x512x2048 .f32 := Memref.whole cc0_scratch1

theorem cRect_inb (o : Fin 4) (j : Fin 2) : ∀ a, (![o.val, j.val, 0, 0] : Fin 4 → ℕ) a + S1x1x1024x512.size a ≤ S4x2x1024x512.size a := by
  revert o j; decide
theorem bRect_inb (b : Fin 2) : ∀ a, (![b.val, 0, 0] : Fin 3 → ℕ) a + S1x512x2048.size a ≤ S2x512x2048.size a := by
  revert b; decide
theorem oRect_inb (q : Fin 4) : ∀ a, (![0, 2048 * q.val] : Fin 2 → ℕ) a + S1024x2048.size a ≤ S1024x8192.size a := by
  revert q; decide
theorem sRect_inb (o : Fin 4) (j : Fin 2) : ∀ a, (![o.val, j.val] : Fin 2 → ℕ) a + S1x1.size a ≤ S4x2.size a := by
  revert o j; decide
theorem wRect_inb (b : Fin 2) : ∀ a, (![b.val] : Fin 1 → ℕ) a + S1.size a ≤ S2.size a := by
  revert b; decide

/-- Slot `(o, j)` of the landing buffer, fetch buffer `b`, column chunk `q` of the result. -/
abbrev cRect (o : Fin 4) (j : Fin 2) : Rect S4x2x1024x512 := Rect.unit (s := S4x2x1024x512) ![o.val, j.val, 0, 0] S1x1x1024x512.size (cRect_inb o j)
abbrev bRect (b : Fin 2) : Rect S2x512x2048 := Rect.unit (s := S2x512x2048) ![b.val, 0, 0] S1x512x2048.size (bRect_inb b)
abbrev oRect (q : Fin 4) : Rect S1024x8192 := Rect.unit (s := S1024x8192) ![0, 2048 * q.val] S1024x2048.size (oRect_inb q)

abbrev slotM (o : Fin 4) (j : Fin 2) : Memref sig .tc .vmem S1024x512 .f32 :=
  (cM.slice (cRect o j) (fun _ => rfl)).squeeze S1024x512 squeezes_S1x1x1024x512_S1024x512
abbrev bufM (b : Fin 2) : Memref sig .tc .vmem S512x2048 .f32 :=
  (bM.slice (bRect b) (fun _ => rfl)).squeeze S512x2048 squeezes_S1x512x2048_S512x2048

/-- The send and receive semaphores of slot `(o, j)`, the semaphore of fetch buffer `b`, the barrier semaphore. -/
abbrev sS (o : Fin 4) (j : Fin 2) : DmaSem sig :=
  ((cc0_scratch2.slice (Rect.unit (s := S4x2) ![o.val, j.val] S1x1.size (sRect_inb o j))).squeeze S_ squeezes_S1x1_S_).sem
abbrev rS (o : Fin 4) (j : Fin 2) : DmaSem sig :=
  ((cc0_scratch3.slice (Rect.unit (s := S4x2) ![o.val, j.val] S1x1.size (sRect_inb o j))).squeeze S_ squeezes_S1x1_S_).sem
abbrev wS (b : Fin 2) : DmaSem sig :=
  ((cc0_scratch4.slice (Rect.unit (s := S2) ![b.val] S1.size (wRect_inb b))).squeeze S_ squeezes_S1_S_).sem
abbrev barS : Sem sig := (SemArray.scalar (sig.barrier 0 rfl) : Sems sig S_).sem

/-! ## The arithmetic of one step -/

/-- One product of a landing slot and a fetched block; -/
def dotp (v : Vec F S1x1x1024x512 .f32) (w : Vec F S1x512x2048 .f32) : FVec F S1024x2048 .f32 :=
  matmul dot_S1024x512_S512x2048_S1024x2048_1_0_0_1_n_n none (shapeCast S1024x512 v shapeCasts_S1x1x1024x512_S1024x512)
    (shapeCast S512x2048 w shapeCasts_S1x512x2048_S512x2048) (constant S1024x2048 .f32 0x00000000#32)
/-- the running sum plus it; -/
def accp (v : Vec F S1x1x1024x512 .f32) (w : Vec F S1x512x2048 .f32) (y : Vec F S1024x2048 .f32) : FVec F S1024x2048 .f32 :=
  addf (shapeCast S1024x2048 y shapeCasts_S1024x2048_S1024x2048) (dotp v w)
/-- the activation of that. -/
def actp (v : Vec F S1x1x1024x512 .f32) (w : Vec F S1x512x2048 .f32) (y : Vec F S1024x2048 .f32) : FVec F S1024x2048 .f32 :=
  mulf (accp v w y) (logistic (accp v w y))

/-! ## The operations -/

/-- The body's programs. -/
abbrev PG (F : FTy → Type) [FloatOps F] : Type 1 := Prog (TpuEff nD τ sig (Elt F) Λ₀ .tc) PUnit

def pSignal (t : Dev nD) (k : PG F) : PG F := .op (.semSignal (t, .tc) barS (1#32).toInt) fun _ => k
def pBarrier (k : PG F) : PG F := .op (.semWait barS (3#32).toInt) fun _ => k
/-- Copy `src` into slot `(o, j)` of device `t`. -/
def pSend (t : Dev nD) (o : Fin 4) (j : Fin 2) (src : Memref sig .tc .hbm S1024x512 .f32) (hs : src.view.WordExact)
    (k : PG F) : PG F :=
  .op (.enqueueDma src (.remote (Dev.tc t) (slotM o j) (.dma (sS o j))) (.dma (rS o j)) hs
    ((View.wordExact_bits rfl).reshape _ _) ⟨⟨rfl, Or.inl rfl⟩, trivial⟩) fun _ => k
/-- Copy `src` into slot `(0, j)` of this device, -/
def pCopy (j : Fin 2) (src : Memref sig .tc .hbm S1024x512 .f32) (hs : src.view.WordExact) (k : PG F) : PG F :=
  .op (.enqueueDma src (.here (slotM 0 j)) (.dma (rS 0 j)) hs ((View.wordExact_bits rfl).reshape _ _) ⟨Or.inl rfl, trivial⟩) fun _ => k
/-- and wait for it. -/
def pCopied (j : Fin 2) (src : Memref sig .tc .hbm S1024x512 .f32) (hs : src.view.WordExact) (k : PG F) : PG F :=
  .op (.waitDma2 (rS 0 j) src (slotM 0 j) hs ((View.wordExact_bits rfl).reshape _ _)) fun _ => k
/-- Wait for what lands in slot `(o, j)`; -/
def pRecv (o : Fin 4) (j : Fin 2) (k : PG F) : PG F :=
  .op (.waitDma2 (rS o j) (slotM o j) (slotM o j) ((View.wordExact_bits rfl).reshape _ _) ((View.wordExact_bits rfl).reshape _ _)) fun _ => k
/-- wait for the copy of `src` to have been read. -/
def pSent (o : Fin 4) (j : Fin 2) (src : Memref sig .tc .hbm S1024x512 .f32) (hs : src.view.WordExact) (k : PG F) : PG F :=
  .op (.waitDma2 (sS o j) (slotM o j) src ((View.wordExact_bits rfl).reshape _ _) hs) fun _ => k
/-- Fetch `src` into fetch buffer `b`, -/
def pFetch (b : Fin 2) (src : Memref sig .tc .hbm S512x2048 .f32) (hs : src.view.WordExact) (k : PG F) : PG F :=
  .op (.enqueueDma src (.here (bufM b)) (.dma (wS b)) hs ((View.wordExact_bits rfl).reshape _ _) ⟨Or.inl rfl, trivial⟩) fun _ => k
/-- and wait for it. -/
def pFetched (b : Fin 2) (src : Memref sig .tc .hbm S512x2048 .f32) (hs : src.view.WordExact) (k : PG F) : PG F :=
  .op (.waitDma2 (wS b) src (bufM b) hs ((View.wordExact_bits rfl).reshape _ _)) fun _ => k
/-- A first step of a column chunk: the product is stored. -/
def pFirst (b : Fin 2) (o : Fin 4) (j : Fin 2) (q : Fin 4) (k : PG F) : PG F :=
  .op (.load cM (cRect o j).toLoadRect (View.loadsAt_vmem h_S1x1x1024x512)) fun v =>
  .op (.load bM (bRect b).toLoadRect (View.loadsAt_vmem h_S1x512x2048)) fun w =>
  .op (.load oM (oRect q).toLoadRect (View.loadsAt_vmem h_S1024x2048)) fun _ =>
  .op (.store oM (oRect q) (dotp v w) Finset.univ (View.stores_vmem_bits_univ h_S1024x2048 rfl) (.inl rfl)) fun _ => k
/-- A later step, `pay` of slot, fetched block and running sum stored. -/
def pStep (pay : Vec F S1x1x1024x512 .f32 → Vec F S1x512x2048 .f32 → Vec F S1024x2048 .f32 → FVec F S1024x2048 .f32)
    (b : Fin 2) (o : Fin 4) (j : Fin 2) (q : Fin 4) (k : PG F) : PG F :=
  .op (.load cM (cRect o j).toLoadRect (View.loadsAt_vmem h_S1x1x1024x512)) fun v =>
  .op (.load bM (bRect b).toLoadRect (View.loadsAt_vmem h_S1x512x2048)) fun w =>
  .op (.load oM (oRect q).toLoadRect (View.loadsAt_vmem h_S1024x2048)) fun y =>
  .op (.load oM (oRect q).toLoadRect (View.loadsAt_vmem h_S1024x2048)) fun _ =>
  .op (.store oM (oRect q) (pay v w y) Finset.univ (View.stores_vmem_bits_univ h_S1024x2048 rfl) (.inl rfl)) fun _ => k

/-! ## What the copies read -/

/-- Rows of the block of the first operand for the device `h + 1` further, columns of half `j`; -/
abbrev xs0 (d : Dev nD) (h : Fin 3) : Memref sig .tc .hbm S1024x512 .f32 :=
  xM.slice (Rect.unit (s := S4096x1024) (k0_off1 d (BitVec.ofNat 32 (1 + h.val))) S1024x512.size (k0_off1_inb d h)) (fun _ => rfl)
abbrev xs1 (d : Dev nD) (h : Fin 3) : Memref sig .tc .hbm S1024x512 .f32 :=
  xM.slice (Rect.unit (s := S4096x1024) (k0_off2 d (BitVec.ofNat 32 (1 + h.val))) S1024x512.size (k0_off2_inb d h)) (fun _ => rfl)
/-- the device's own rows; -/
abbrev xl0 (d : Dev nD) : Memref sig .tc .hbm S1024x512 .f32 :=
  xM.slice (Rect.unit (s := S4096x1024) (k0_off3 d) S1024x512.size (k0_off3_inb d)) (fun _ => rfl)
abbrev xl1 (d : Dev nD) : Memref sig .tc .hbm S1024x512 .f32 :=
  xM.slice (Rect.unit (s := S4096x1024) (k0_off4 d) S1024x512.size (k0_off4_inb d)) (fun _ => rfl)
/-- the second operand's blocks. -/
abbrev ws0 (d : Dev nD) (o : Fin 4) (j : Fin 2) : Memref sig .tc .hbm S512x2048 .f32 :=
  wM.slice (Rect.unit (s := S4096x8192) (k0_off5 d (BitVec.ofNat 32 o.val) (BitVec.ofNat 32 (512 * j.val))) S512x2048.size (k0_off5_inb d o j)) (fun _ => rfl)
abbrev ws1 (d : Dev nD) (o : Fin 4) (j : Fin 2) : Memref sig .tc .hbm S512x2048 .f32 :=
  wM.slice (Rect.unit (s := S4096x8192) (k0_off6 d (BitVec.ofNat 32 o.val) (BitVec.ofNat 32 (512 * j.val))) S512x2048.size (k0_off6_inb d o j)) (fun _ => rfl)
abbrev ws2 (d : Dev nD) (o : Fin 4) (j : Fin 2) : Memref sig .tc .hbm S512x2048 .f32 :=
  wM.slice (Rect.unit (s := S4096x8192) (k0_off7 d (BitVec.ofNat 32 o.val) (BitVec.ofNat 32 (512 * j.val))) S512x2048.size (k0_off7_inb d o j)) (fun _ => rfl)
abbrev ws3 (d : Dev nD) (o : Fin 4) (j : Fin 2) : Memref sig .tc .hbm S512x2048 .f32 :=
  wM.slice (Rect.unit (s := S4096x8192) (k0_off8 d (BitVec.ofNat 32 o.val) (BitVec.ofNat 32 (512 * j.val))) S512x2048.size (k0_off8_inb d o j)) (fun _ => rfl)

/-! ## The body -/

/-- The four steps over slot `(0, 0)`. -/
def blockP0 (d : Dev nD) (k : PG F) : PG F :=
  pCopied 0 (xl0 d) (View.wordExact_bits rfl) <|
  pFetched 0 (ws0 d 0 0) (View.wordExact_bits rfl) <|
  pFirst 0 0 0 0 <|
  pFetch 0 (ws2 d 0 0) (View.wordExact_bits rfl) <|
  pFetched 1 (ws1 d 0 0) (View.wordExact_bits rfl) <|
  pFirst 1 0 0 1 <|
  pFetch 1 (ws3 d 0 0) (View.wordExact_bits rfl) <|
  pFetched 0 (ws2 d 0 0) (View.wordExact_bits rfl) <|
  pFirst 0 0 0 2 <|
  pFetch 0 (ws0 d 0 1) (View.wordExact_bits rfl) <|
  pFetched 1 (ws3 d 0 0) (View.wordExact_bits rfl) <|
  pFirst 1 0 0 3 <|
  pFetch 1 (ws1 d 0 1) (View.wordExact_bits rfl) <|
  k
/-- The four steps over slot `(0, 1)`. -/
def blockP1 (d : Dev nD) (k : PG F) : PG F :=
  pCopied 1 (xl1 d) (View.wordExact_bits rfl) <|
  pFetched 0 (ws0 d 0 1) (View.wordExact_bits rfl) <|
  pStep accp 0 0 1 0 <|
  pFetch 0 (ws2 d 0 1) (View.wordExact_bits rfl) <|
  pFetched 1 (ws1 d 0 1) (View.wordExact_bits rfl) <|
  pStep accp 1 0 1 1 <|
  pFetch 1 (ws3 d 0 1) (View.wordExact_bits rfl) <|
  pFetched 0 (ws2 d 0 1) (View.wordExact_bits rfl) <|
  pStep accp 0 0 1 2 <|
  pFetch 0 (ws0 d 1 0) (View.wordExact_bits rfl) <|
  pFetched 1 (ws3 d 0 1) (View.wordExact_bits rfl) <|
  pStep accp 1 0 1 3 <|
  pFetch 1 (ws1 d 1 0) (View.wordExact_bits rfl) <|
  k
/-- The four steps over slot `(1, 0)`. -/
def blockP2 (d : Dev nD) (k : PG F) : PG F :=
  pRecv 1 0 <|
  pFetched 0 (ws0 d 1 0) (View.wordExact_bits rfl) <|
  pStep accp 0 1 0 0 <|
  pFetch 0 (ws2 d 1 0) (View.wordExact_bits rfl) <|
  pFetched 1 (ws1 d 1 0) (View.wordExact_bits rfl) <|
  pStep accp 1 1 0 1 <|
  pFetch 1 (ws3 d 1 0) (View.wordExact_bits rfl) <|
  pFetched 0 (ws2 d 1 0) (View.wordExact_bits rfl) <|
  pStep accp 0 1 0 2 <|
  pFetch 0 (ws0 d 3 0) (View.wordExact_bits rfl) <|
  pFetched 1 (ws3 d 1 0) (View.wordExact_bits rfl) <|
  pStep accp 1 1 0 3 <|
  pFetch 1 (ws1 d 3 0) (View.wordExact_bits rfl) <|
  k
/-- The four steps over slot `(3, 0)`. -/
def blockP3 (d : Dev nD) (k : PG F) : PG F :=
  pRecv 3 0 <|
  pFetched 0 (ws0 d 3 0) (View.wordExact_bits rfl) <|
  pStep accp 0 3 0 0 <|
  pFetch 0 (ws2 d 3 0) (View.wordExact_bits rfl) <|
  pFetched 1 (ws1 d 3 0) (View.wordExact_bits rfl) <|
  pStep accp 1 3 0 1 <|
  pFetch 1 (ws3 d 3 0) (View.wordExact_bits rfl) <|
  pFetched 0 (ws2 d 3 0) (View.wordExact_bits rfl) <|
  pStep accp 0 3 0 2 <|
  pFetch 0 (ws0 d 1 1) (View.wordExact_bits rfl) <|
  pFetched 1 (ws3 d 3 0) (View.wordExact_bits rfl) <|
  pStep accp 1 3 0 3 <|
  pFetch 1 (ws1 d 1 1) (View.wordExact_bits rfl) <|
  k
/-- The four steps over slot `(1, 1)`. -/
def blockP4 (d : Dev nD) (k : PG F) : PG F :=
  pRecv 1 1 <|
  pFetched 0 (ws0 d 1 1) (View.wordExact_bits rfl) <|
  pStep accp 0 1 1 0 <|
  pFetch 0 (ws2 d 1 1) (View.wordExact_bits rfl) <|
  pFetched 1 (ws1 d 1 1) (View.wordExact_bits rfl) <|
  pStep accp 1 1 1 1 <|
  pFetch 1 (ws3 d 1 1) (View.wordExact_bits rfl) <|
  pFetched 0 (ws2 d 1 1) (View.wordExact_bits rfl) <|
  pStep accp 0 1 1 2 <|
  pFetch 0 (ws0 d 3 1) (View.wordExact_bits rfl) <|
  pFetched 1 (ws3 d 1 1) (View.wordExact_bits rfl) <|
  pStep accp 1 1 1 3 <|
  pFetch 1 (ws1 d 3 1) (View.wordExact_bits rfl) <|
  k
/-- The four steps over slot `(3, 1)`. -/
def blockP5 (d : Dev nD) (k : PG F) : PG F :=
  pRecv 3 1 <|
  pFetched 0 (ws0 d 3 1) (View.wordExact_bits rfl) <|
  pStep accp 0 3 1 0 <|
  pFetch 0 (ws2 d 3 1) (View.wordExact_bits rfl) <|
  pFetched 1 (ws1 d 3 1) (View.wordExact_bits rfl) <|
  pStep accp 1 3 1 1 <|
  pFetch 1 (ws3 d 3 1) (View.wordExact_bits rfl) <|
  pFetched 0 (ws2 d 3 1) (View.wordExact_bits rfl) <|
  pStep accp 0 3 1 2 <|
  pFetch 0 (ws0 d 2 0) (View.wordExact_bits rfl) <|
  pFetched 1 (ws3 d 3 1) (View.wordExact_bits rfl) <|
  pStep accp 1 3 1 3 <|
  pFetch 1 (ws1 d 2 0) (View.wordExact_bits rfl) <|
  k
/-- The four steps over slot `(2, 0)`. -/
def blockP6 (d : Dev nD) (k : PG F) : PG F :=
  pRecv 2 0 <|
  pFetched 0 (ws0 d 2 0) (View.wordExact_bits rfl) <|
  pStep accp 0 2 0 0 <|
  pFetch 0 (ws2 d 2 0) (View.wordExact_bits rfl) <|
  pFetched 1 (ws1 d 2 0) (View.wordExact_bits rfl) <|
  pStep accp 1 2 0 1 <|
  pFetch 1 (ws3 d 2 0) (View.wordExact_bits rfl) <|
  pFetched 0 (ws2 d 2 0) (View.wordExact_bits rfl) <|
  pStep accp 0 2 0 2 <|
  pFetch 0 (ws0 d 2 1) (View.wordExact_bits rfl) <|
  pFetched 1 (ws3 d 2 0) (View.wordExact_bits rfl) <|
  pStep accp 1 2 0 3 <|
  pFetch 1 (ws1 d 2 1) (View.wordExact_bits rfl) <|
  k
/-- The four steps over slot `(2, 1)`. -/
def blockP7 (d : Dev nD) (k : PG F) : PG F :=
  pRecv 2 1 <|
  pFetched 0 (ws0 d 2 1) (View.wordExact_bits rfl) <|
  pStep actp 0 2 1 0 <|
  pFetch 0 (ws2 d 2 1) (View.wordExact_bits rfl) <|
  pFetched 1 (ws1 d 2 1) (View.wordExact_bits rfl) <|
  pStep actp 1 2 1 1 <|
  pFetch 1 (ws3 d 2 1) (View.wordExact_bits rfl) <|
  pFetched 0 (ws2 d 2 1) (View.wordExact_bits rfl) <|
  pStep actp 0 2 1 2 <|
  pFetched 1 (ws3 d 2 1) (View.wordExact_bits rfl) <|
  pStep actp 1 2 1 3 <|
  k
/-- The barrier, the copies and the first two fetches; -/
def startP (d : Dev nD) (k : PG F) : PG F :=
  pSignal ⟨k0_dev1 d, k0_dev1_lt d⟩ <|
  pSignal ⟨k0_dev2 d, k0_dev2_lt d⟩ <|
  pSignal ⟨k0_dev3 d, k0_dev3_lt d⟩ <|
  pBarrier <|
  pSend ⟨k0_dev4 d, k0_dev4_lt d⟩ 1 0 (xs0 d 0) (View.wordExact_bits rfl) <|
  pSend ⟨k0_dev5 d, k0_dev5_lt d⟩ 3 0 (xs0 d 2) (View.wordExact_bits rfl) <|
  pSend ⟨k0_dev6 d, k0_dev6_lt d⟩ 2 0 (xs0 d 1) (View.wordExact_bits rfl) <|
  pSend ⟨k0_dev7 d, k0_dev7_lt d⟩ 1 1 (xs1 d 0) (View.wordExact_bits rfl) <|
  pSend ⟨k0_dev8 d, k0_dev8_lt d⟩ 3 1 (xs1 d 2) (View.wordExact_bits rfl) <|
  pSend ⟨k0_dev9 d, k0_dev9_lt d⟩ 2 1 (xs1 d 1) (View.wordExact_bits rfl) <|
  pCopy 0 (xl0 d) (View.wordExact_bits rfl) <|
  pCopy 1 (xl1 d) (View.wordExact_bits rfl) <|
  pFetch 0 (ws0 d 0 0) (View.wordExact_bits rfl) <|
  pFetch 1 (ws1 d 0 0) (View.wordExact_bits rfl) <|
  k
/-- the waits for the sends. -/
def endP (d : Dev nD) (k : PG F) : PG F :=
  pSent 1 0 (xs0 d 0) (View.wordExact_bits rfl) <|
  pSent 3 0 (xs0 d 2) (View.wordExact_bits rfl) <|
  pSent 2 0 (xs0 d 1) (View.wordExact_bits rfl) <|
  pSent 1 1 (xs1 d 0) (View.wordExact_bits rfl) <|
  pSent 3 1 (xs1 d 2) (View.wordExact_bits rfl) <|
  pSent 2 1 (xs1 d 1) (View.wordExact_bits rfl) <|
  k
def flat (d : Dev nD) : PG F :=
  startP d <| blockP0 d <| blockP1 d <| blockP2 d <| blockP3 d <| blockP4 d <| blockP5 d <| blockP6 d <| blockP7 d <| endP d <| .ret ⟨⟩

set_option maxRecDepth 100000 in
set_option maxHeartbeats 4000000 in
/-- The printed body is the straight one, the device read first. -/
theorem body_flat : cc0_body (F := F) xM (Memref.isWhole_whole _) wM (Memref.isWhole_whole _) oM (Memref.isWhole_whole _)
    cM (Memref.isWhole_whole _) bM (Memref.isWhole_whole _) cc0_scratch2 cc0_scratch3 cc0_scratch4 = .op .deviceId flat := by
  rfl

end Cert.KernelIdeal.Mesh

end
-- ==== Proof.Proto.lean ====
module

public import proofs.«01_k».proof.Proof.Flat

/-! # The protocol of the exchange

Four devices. `pe c o` is the device `o` further than `c`, `pm c o` the device `o` before it.
Device `c` sends to `pe c o`, for `o = 1, 2, 3`, the rows of its columns of `x` that belong to `pe c o`, in two halves
`j = 0, 1`: they land in slot `(o, j)` of the landing buffer of `pe c o`.

* The barrier semaphore of `c`: `pe c o` signals it once for each `o`; with that signal `pe c o` hands over its own slots
  `(o, 0)` and `(o, 1)`, which `c` will write. `c` waits for all three.
* The receive semaphore `(o, j)` of `c`: credited once, by the landing of the copy from `pm c o`, which hands `c` back its
  slot `(o, j)` holding that device's half block. `c` waits for the whole credit.
* The send semaphore `(o, j)` of `c`: credited once, when the copy has been read. It hands nothing over: the copy
  reads a share of `x` that is not needed again.
* The receive semaphores `(0, j)` and the two fetch semaphores are used by this device's own copies alone.

Each of these cells has the single round `0`. At the start `c` owes one unit to each other barrier and one
copy to each of the six receive cells it writes. Barriers are at level 1 and receive cells at level 2, so
that a device may wait for its barrier while it still owes its copies. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds, the second component's first. -/
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER; infer_instance

variable (m : (ℓ : Loc nD τ sig) → Buf (Elt F) ℓ)

/-! ## The devices -/

set_option backward.proofsInPublic true in
/-- The device `o` further, -/
def pe (c : Dev nD) (o : Fin 4) : Dev nD := ⟨(c.val + o.val) % 4, Nat.mod_lt _ (by decide)⟩
set_option backward.proofsInPublic true in
/-- the device `o` before. -/
def pm (c : Dev nD) (o : Fin 4) : Dev nD := ⟨(c.val + (4 - o.val)) % 4, Nat.mod_lt _ (by decide)⟩

theorem pm_pe (c : Dev nD) (o : Fin 4) : pm (pe c o) o = c := by revert c o; decide
theorem pe_pm (c : Dev nD) (o : Fin 4) : pe (pm c o) o = c := by revert c o; decide

/-- Shifting by `o`, as a permutation of the devices. -/
def shift (o : Fin 4) : Dev nD ≃ Dev nD := ⟨fun c => pe c o, fun c => pm c o, fun c => pm_pe c o, fun c => pe_pm c o⟩

/-! ## The cells -/

/-- The cells of one device: its barrier, and the send (`false`) and receive (`true`) cells of slot `(h + 1, j)`. -/
abbrev CK : Type := Option (Bool × Fin 3 × Fin 2)

abbrev csem : CK → SemLoc sig
  | none => .reg barS
  | some (false, h, j) => .dma (sS h.succ j)
  | some (true, h, j) => .dma (rS h.succ j)

theorem csem_inj : Function.Injective csem := by
  intro a b; revert a b; decide +kernel

abbrev kcell (p : Dev nD × CK) : GSem nD τ sig := ((p.1 : Thread nD τ), csem p.2)

abbrev barCell (c : Dev nD) : GSem nD τ sig := kcell (c, none)
abbrev sendCell (c : Dev nD) (h : Fin 3) (j : Fin 2) : GSem nD τ sig := kcell (c, some (false, h, j))
abbrev recvCell (c : Dev nD) (h : Fin 3) (j : Fin 2) : GSem nD τ sig := kcell (c, some (true, h, j))

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Which of these cells a semaphore is, if any. -/
def dec (g : GSem nD τ sig) : Option (Dev nD × CK) := Function.partialInv kcell g
theorem dec_kcell (p : Dev nD × CK) : dec (kcell p) = some p := Function.partialInv_left kcell_inj p

/-- What one copy into a slot credits. -/
def N : ℕ := (slotM 0 0).view.dmaCredit
theorem N_pos : 0 < N := View.dmaCredit_pos _ (by decide)
theorem N_slot (o : Fin 4) (j : Fin 2) : (slotM o j).view.dmaCredit = N := rfl
theorem N_src (d : Dev nD) (o : Fin 4) (h : ∀ a, (![1024 * d.val, 512 * o.val] : Fin 2 → ℕ) a + S1024x512.size a ≤ S4096x1024.size a) :
    (xM.slice (Rect.unit (s := S4096x1024) ![1024 * d.val, 512 * o.val] S1024x512.size h) (fun _ => rfl)).view.dmaCredit = N := rfl
/-- What one fetch credits. -/
def NW : ℕ := (bufM 0).view.dmaCredit
theorem NW_pos : 0 < NW := View.dmaCredit_pos _ (by decide)
theorem NW_buf (b : Fin 2) : (bufM b).view.dmaCredit = NW := rfl
attribute [irreducible] N NW

/-! ## Contents -/

theorem xRect_inb (d : Dev nD) (o : Fin 4) (j : Fin 2) :
    ∀ a, (![1024 * (pe d o).val, 512 * j.val] : Fin 2 → ℕ) a + S1024x512.size a ≤ S4096x1024.size a := by
  revert d o j; decide +kernel
theorem wRect'_inb (d : Dev nD) (o : Fin 4) (j : Fin 2) (q : Fin 4) :
    ∀ a, (![1024 * (pm d o).val + 512 * j.val, 2048 * q.val] : Fin 2 → ℕ) a + S512x2048.size a ≤ S4096x8192.size a := by
  revert d o j q; decide +kernel

/-- The rows of this device's columns of `x` that go to the device `o` further, half `j` of the columns. -/
abbrev xsM (d : Dev nD) (o : Fin 4) (j : Fin 2) : Memref sig .tc .hbm S1024x512 .f32 :=
  xM.slice (Rect.unit (s := S4096x1024) ![1024 * (pe d o).val, 512 * j.val] S1024x512.size (xRect_inb d o j)) (fun _ => rfl)
/-- The rows of `w` that meet slot `(o, j)`, column chunk `q`. -/
abbrev wsM (d : Dev nD) (o : Fin 4) (j : Fin 2) (q : Fin 4) : Memref sig .tc .hbm S512x2048 .f32 :=
  wM.slice (Rect.unit (s := S4096x8192) ![1024 * (pm d o).val + 512 * j.val, 2048 * q.val] S512x2048.size (wRect'_inb d o j q)) (fun _ => rfl)

theorem xslice_congr {a b : Fin 2 → ℕ} (h : a = b) (ha : ∀ i, a i + S1024x512.size i ≤ S4096x1024.size i)
    (hb : ∀ i, b i + S1024x512.size i ≤ S4096x1024.size i) :
    xM.slice (Rect.unit (s := S4096x1024) a S1024x512.size ha) (fun _ => rfl)
      = xM.slice (Rect.unit (s := S4096x1024) b S1024x512.size hb) (fun _ => rfl) := by subst h; rfl
theorem wslice_congr {a b : Fin 2 → ℕ} (h : a = b) (ha : ∀ i, a i + S512x2048.size i ≤ S4096x8192.size i)
    (hb : ∀ i, b i + S512x2048.size i ≤ S4096x8192.size i) :
    wM.slice (Rect.unit (s := S4096x8192) a S512x2048.size ha) (fun _ => rfl)
      = wM.slice (Rect.unit (s := S4096x8192) b S512x2048.size hb) (fun _ => rfl) := by subst h; rfl

theorem xs0_eq (d : Dev nD) (h : Fin 3) : xs0 d h = xsM d h.succ 0 := xslice_congr (by revert d h; decide +kernel) _ _
theorem xs1_eq (d : Dev nD) (h : Fin 3) : xs1 d h = xsM d h.succ 1 := xslice_congr (by revert d h; decide +kernel) _ _
theorem xl0_eq (d : Dev nD) : xl0 d = xsM d 0 0 := xslice_congr (by revert d; decide +kernel) _ _
theorem xl1_eq (d : Dev nD) : xl1 d = xsM d 0 1 := xslice_congr (by revert d; decide +kernel) _ _
theorem ws0_eq (d : Dev nD) (o : Fin 4) (j : Fin 2) : ws0 d o j = wsM d o j 0 := wslice_congr (by revert d o j; decide +kernel) _ _
theorem ws1_eq (d : Dev nD) (o : Fin 4) (j : Fin 2) : ws1 d o j = wsM d o j 1 := wslice_congr (by revert d o j; decide +kernel) _ _
theorem ws2_eq (d : Dev nD) (o : Fin 4) (j : Fin 2) : ws2 d o j = wsM d o j 2 := wslice_congr (by revert d o j; decide +kernel) _ _
theorem ws3_eq (d : Dev nD) (o : Fin 4) (j : Fin 2) : ws3 d o j = wsM d o j 3 := wslice_congr (by revert d o j; decide +kernel) _ _

theorem dev1_eq (c : Dev nD) : (⟨k0_dev1 c, k0_dev1_lt c⟩ : Dev nD) = pe c 1 := by revert c; decide +kernel
theorem dev2_eq (c : Dev nD) : (⟨k0_dev2 c, k0_dev2_lt c⟩ : Dev nD) = pe c 2 := by revert c; decide +kernel
theorem dev3_eq (c : Dev nD) : (⟨k0_dev3 c, k0_dev3_lt c⟩ : Dev nD) = pe c 3 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 3 := by revert c; decide +kernel
theorem dev6_eq (c : Dev nD) : (⟨k0_dev6 c, k0_dev6_lt c⟩ : Dev nD) = pe c 2 := by revert c; decide +kernel
theorem dev7_eq (c : Dev nD) : (⟨k0_dev7 c, k0_dev7_lt c⟩ : Dev nD) = pe c 1 := by revert c; decide +kernel
theorem dev8_eq (c : Dev nD) : (⟨k0_dev8 c, k0_dev8_lt c⟩ : Dev nD) = pe c 3 := by revert c; decide +kernel
theorem dev9_eq (c : Dev nD) : (⟨k0_dev9 c, k0_dev9_lt c⟩ : Dev nD) = pe c 2 := by revert c; decide +kernel

/-- `x`'s columns and `w` on device `c`, as launched. -/
abbrev xIn (c : Dev nD) : Buf (Elt F) (xM.view.loc (c : Thread nD τ)) := m ((c : Thread nD τ).loc main_arg0)
abbrev wIn (c : Dev nD) : Buf (Elt F) (wM.view.loc (c : Thread nD τ)) := m ((c : Thread nD τ).loc main_arg1)

/-- What slot `(o, j)` of device `c` comes to hold: what the device `o` before it sends. -/
def xval (c : Dev nD) (o : Fin 4) (j : Fin 2) : Vec F S1024x512 .f32 :=
  (xsM (pm c o) o j).view.read (Elt F) (xIn m (pm c o))
/-- What a fetch of the block for slot `(o, j)` and chunk `q` brings. -/
def wval (c : Dev nD) (o : Fin 4) (j : Fin 2) (q : Fin 4) : Vec F S512x2048 .f32 :=
  (wsM c o j q).view.read (Elt F) (wIn m c)

/-- Slot `(o, j)` of device `c`, held by its own elements at contents `f`; -/
def slotPts (c : Dev nD) (o : Fin 4) (j : Fin 2) (f : Buf (Elt F) ((slotM o j).view.loc (c : Thread nD τ))) : sProp 𝕄 :=
  (slotM o j).view.loc (c : Thread nD τ) ↦[(slotM o j).view.set]{fullShare} f
/-- at any contents; -/
def slotAny (c : Dev nD) (o : Fin 4) (j : Fin 2) : sProp 𝕄 := iprop(∃ f, slotPts c o j f)
/-- reading as `v`. -/
def slotIs (c : Dev nD) (o : Fin 4) (j : Fin 2) (v : Vec F S1024x512 .f32) : sProp 𝕄 :=
  iprop(∃ f, ⌜(slotM o j).view.read (Elt F) f = v⌝ ∗ slotPts c o j f)

instance slotPts_storable (c : Dev nD) (o : Fin 4) (j : Fin 2) (f) : BI.Storable (upEmb : UEmb _ 𝕄) (slotPts (F := F) c o j f) := by
  unfold slotPts; infer_instance
instance slotAny_storable (c : Dev nD) (o : Fin 4) (j : Fin 2) : BI.Storable (upEmb : UEmb _ 𝕄) (slotAny (F := F) c o j) := by
  unfold slotAny; infer_instance
instance slotIs_storable (c : Dev nD) (o : Fin 4) (j : Fin 2) (v) : BI.Storable (upEmb : UEmb _ 𝕄) (slotIs (F := F) c o j v) := by
  unfold slotIs; infer_instance

/-! ## The schedule -/

/-- The duties of a cell, -/
def dut : CK → Finset (Fin 4) | none => {1, 2, 3} | some _ => {0}
/-- what each is worth, -/
def amt : CK → ℕ | none => 1 | some _ => N
/-- and what it hands over. -/
def pay (c : Dev nD) : CK → Fin 4 → sProp 𝕄
  | none, o => iprop(slotAny (pe c o) o 0 ∗ slotAny (pe c o) o 1)
  | some (false, _, _), _ => iprop(emp)
  | some (true, h, j), _ => slotIs c h.succ j (xval m c h.succ j)

theorem amt_pos (k : CK) : 0 < amt k := by
  cases k with
  | none => exact Nat.one_pos
  | some k => exact N_pos

/-- The same of a cell found, if any. -/
def dutO (x : Option (Dev nD × CK)) : Finset (Fin 4) := x.elim ∅ fun p => dut p.2
def amtO (x : Option (Dev nD × CK)) : ℕ := x.elim 1 fun p => amt p.2
def payO (x : Option (Dev nD × CK)) (d : Fin 4) : sProp 𝕄 := x.elim iprop(emp) fun p => pay m p.1 p.2 d

theorem amtO_pos (x : Option (Dev nD × CK)) : 0 < amtO x := by
  cases x with
  | none => exact Nat.one_pos
  | some p => exact amt_pos p.2

theorem pay_storable (c : Dev nD) (k : CK) (d : Fin 4) : BI.Storable (upEmb : UEmb _ 𝕄) (pay m c k d) := by
  rcases k with _ | ⟨_ | _, h, j⟩ <;> unfold pay <;> infer_instance

theorem payO_storable (x : Option (Dev nD × CK)) (d : Fin 4) : BI.Storable (upEmb : UEmb _ 𝕄) (payO m x d) := by
  cases x with
  | none => show BI.Storable _ iprop(emp); infer_instance
  | some p => exact pay_storable m p.1 p.2 d

def Rd : Rounds.Schedule (GSem nD τ sig) (Fin 4) 𝕄 where
  duties g r := if r = 0 then dutO (dec g) else ∅
  unitless _ := False
  amount g _ _ := amtO (dec g)
  payload g _ d := payO m (dec g) d
  amount_pos g _ _ _ := amtO_pos _

instance Rd_payload_storable (g : GSem nD τ sig) (r : ℕ) (d : Fin 4) :
    BI.Storable (upEmb : UEmb _ 𝕄) ((Rd (F := F) m).payload g r d) := payO_storable m _ d

theorem duties_k (p : Dev nD × CK) : (Rd (F := F) m).duties (kcell p) 0 = dut p.2 := by
  show dutO (dec (kcell p)) = _; rw [dec_kcell]; rfl
theorem amount_k (p : Dev nD × CK) (d : Fin 4) : (Rd (F := F) m).amount (kcell p) 0 d = amt p.2 := by
  show amtO (dec (kcell p)) = _; rw [dec_kcell]; rfl
theorem payload_k (p : Dev nD × CK) (d : Fin 4) : (Rd (F := F) m).payload (kcell p) 0 d = pay m p.1 p.2 d := by
  show payO m (dec (kcell p)) d = _; rw [dec_kcell]; rfl
theorem duties_later (g : GSem nD τ sig) : ∀ r, 1 ≤ r → (Rd (F := F) m).duties g r = ∅ :=
  fun r hr => by dsimp only [Rd]; rw [if_neg fun h => by omega]
theorem expect_bar (c : Dev nD) : (Rd (F := F) m).expect (barCell c) 0 = 3 := by
  unfold Schedule.expect Schedule.amountOf
  rw [duties_k, Finset.sum_congr rfl fun d _ => amount_k m (c, none) d]; rfl
theorem expect_xfer (c : Dev nD) (k : Bool × Fin 3 × Fin 2) : (Rd (F := F) m).expect (kcell (c, some k)) 0 = N := by
  unfold Schedule.expect Schedule.amountOf
  rw [duties_k, Finset.sum_congr rfl fun d _ => amount_k m (c, some k) d]
  exact Finset.sum_singleton _ _

/-- All that the barrier's round hands over; -/
theorem rest_bar (c : Dev nD) : bigSep ((Rd (F := F) m).duties (barCell c) 0 \ ∅) (fun d => (Rd (F := F) m).payload (barCell c) 0 d)
    = iprop((slotAny (pe c 1) 1 0 ∗ slotAny (pe c 1) 1 1) ∗ (slotAny (pe c 2) 2 0 ∗ slotAny (pe c 2) 2 1)
        ∗ (slotAny (pe c 3) 3 0 ∗ slotAny (pe c 3) 3 1)) := by
  rw [Finset.sdiff_empty, duties_k, bigSep_congr (fun d _ => payload_k m (c, none) d)]
  show bigSep {1, 2, 3} _ = _
  rw [bigSep_eq_bigSepL_of_eq [1, 2, 3] (by decide) (by decide)]; rfl
/-- all that a copy's round hands over. -/
theorem rest_xfer (c : Dev nD) (k : Bool × Fin 3 × Fin 2) :
    bigSep ((Rd (F := F) m).duties (kcell (c, some k)) 0 \ ∅) (fun d => (Rd (F := F) m).payload (kcell (c, some k)) 0 d)
    = pay m c (some k) 0 := by
  rw [Finset.sdiff_empty, duties_k]
  show bigSep {0} _ = _
  rw [bigSep_singleton, payload_k]

/-! ## What is owed, and the levels -/

/-- The sum of a list of debts, the head the last summand. -/
def owe : List (GSem nD τ sig × ℕ) → CellTallies nD τ sig Unit
  | [] => 0
  | p :: l => owe l + tallyAt p.1 () p.2

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    unfold owe at h
    rw [Pi.add_apply, Finsupp.add_apply, tallyAt_apply] at h
    by_cases hp : g = p.1
    · exact ⟨p, List.mem_cons_self, hp.symm⟩
    · rw [if_neg (fun h' => hp h'.1), Nat.add_zero] at h
      obtain ⟨q, hq, e⟩ := ih h
      exact ⟨q, List.mem_cons_of_mem _ hq, e⟩

/-- The six copies in the order they are sent, -/
abbrev owedSends (c : Dev nD) : List (GSem nD τ sig × ℕ) :=
  [(recvCell (pe c 1) 0 0, N), (recvCell (pe c 3) 2 0, N), (recvCell (pe c 2) 1 0, N),
   (recvCell (pe c 1) 0 1, N), (recvCell (pe c 3) 2 1, N), (recvCell (pe c 2) 1 1, N)]
/-- after the three signals. -/
abbrev owedAll (c : Dev nD) : List (GSem nD τ sig × ℕ) :=
  (barCell (pe c 1), 1) :: (barCell (pe c 2), 1) :: (barCell (pe c 3), 1) :: owedSends c

def O₀ (c : Dev nD) : CellTallies nD τ sig Unit := owe (owedAll c)

def L (g : GSem nD τ sig) : Finset Unit := if g.1.2 = .tc then {()} else ∅
/-- Barriers at 1, receive cells at 2, all else at 0. -/
def lv (g : GSem nD τ sig) (_ : Unit) : ℕ :=
  if g.2 = .reg barS then 1 else if ∃ (h : Fin 3) (j : Fin 2), g.2 = .dma (rS h.succ j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (h : Fin 3) (j : Fin 2) (u : Unit) : lv (recvCell c h j) u = 2 := by
  unfold lv; rw [if_neg (by rintro ⟨⟩), if_pos ⟨h, j, rfl⟩]

/-- Everything owed is owed to a device's own thread, at level at least 1; -/
theorem owed_all (c : Dev nD) : ∀ p ∈ owedAll c, p.1.1.2 = .tc ∧ 0 < lv p.1 () := by
  intro p hp
  simp only [owedAll, owedSends, List.mem_cons, List.not_mem_nil, or_false] at hp
  rcases hp with rfl | rfl | rfl | rfl | rfl | rfl | rfl | rfl | rfl <;>
    exact ⟨rfl, by first | rw [lv_bar]; decide | rw [lv_recv]; decide⟩
/-- what is owed after the signals at level 2. -/
theorem owed_sends (c : Dev nD) : ∀ p ∈ owedSends c, p.1.1.2 = .tc ∧ 1 < lv p.1 () := by
  intro p hp
  simp only [owedSends, List.mem_cons, List.not_mem_nil, or_false] at hp
  rcases hp with rfl | rfl | rfl | rfl | rfl | rfl <;> exact ⟨rfl, by rw [lv_recv]; decide⟩

/-- A wait on a cell at a level below all that is owed. -/
theorem mayWait_of (c : Dev nD) (sm : SemLoc sig) (n : ℕ) (hn : ∀ u, lv ((c : Thread nD τ), sm) u ≤ n)
    (l : List (GSem nD τ sig × ℕ)) (hl : ∀ p ∈ l, p.1.1.2 = .tc ∧ n < lv p.1 ()) :
    (levAts L lv : sProp 𝕄) ⊢ MayWait (c : Thread nD τ) sm () (owe l) :=
  MayOwe.of_cut (L := L) (lev := lv) n
    (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hn _)
    (fun g u hg => by obtain ⟨p, hp, rfl⟩ := owe_pos hg; exact (hl p hp).2)

theorem mayWait_bar (c : Dev nD) : (levAts L lv : sProp 𝕄) ⊢ MayWait (c : Thread nD τ) (.reg barS) () (owe (owedSends c)) :=
  mayWait_of c _ 1 (fun u => (lv_bar c u).le) _ (owed_sends c)

theorem mayWait_stage (c : Dev nD) (q : DmaSem sig) (hq : ∀ (h : Fin 3) (j : Fin 2), SemLoc.dma q ≠ .dma (rS h.succ j)) :
    (levAts L lv : sProp 𝕄) ⊢ MayWait (c : Thread nD τ) (.dma q) () (O₀ c) :=
  mayWait_of c _ 0 (fun u => by
    unfold lv; rw [if_neg (by rintro ⟨⟩), if_neg (fun ⟨h, j, e⟩ => hq h j e)]) _ (owed_all c)

/-! ## The ghost state -/

/-- All cells' invariants under the names `K`, and that each has reached round 0. -/
def records (K : Dev nD × CK → ℕ) : sProp 𝕄 :=
  iprop((bigSep Finset.univ fun p : Dev nD × CK => cellInv ER (Rd m) (K p) (kcell p))
    ∗ bigSep Finset.univ fun p : Dev nD × CK => reached ER (kcell p) 0)

instance records_persistent (K : Dev nD × CK → ℕ) : BI.Persistent (records m K) := by unfold records; infer_instance

theorem records_inv (K : Dev nD × CK → ℕ) (p : Dev nD × CK) : records m K ⊢ cellInv ER (Rd m) (K p) (kcell p) := by
  have h : (bigSep Finset.univ fun p : Dev nD × CK => (cellInv ER (Rd m) (K p) (kcell p) : sProp 𝕄)) ⊢ cellInv ER (Rd m) (K p) (kcell p) :=
    bigSep_elim (Finset.mem_univ p)
  unfold records; iintro ⟨H, -⟩
  iapply h; iexact H
theorem records_reached (K : Dev nD × CK → ℕ) (p : Dev nD × CK) : records m K ⊢ reached ER (kcell p) 0 := by
  have h : (bigSep Finset.univ fun p : Dev nD × CK => (reached ER (kcell p) 0 : sProp 𝕄)) ⊢ reached ER (kcell p) 0 :=
    bigSep_elim (Finset.mem_univ p)
  unfold records; iintro ⟨-, H⟩
  iapply h; iexact H

end Cert.KernelIdeal.Mesh

end
-- ==== Proof.Steps.lean ====
module

public import proofs.«01_k».proof.Proof.Proto
public import Idealize.ShloMosaic.Lib.ViewIndex

/-! # One rule per operation of the body

Each operation of the straight body takes an assertion about device `c` to another. The operands in the first and second
array are held at some share, of which every copy takes a part; a landing slot and a fetch buffer are held by their own
elements, the result's buffer whole, its four column chunks named. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of the rest of the body on device `c`. -/
abbrev WP (c : Dev nD) (k : PG F) (Q : PUnit → sProp 𝕄) : sProp 𝕄 :=
  wp frame (wpE (defs₀ (F := F)) 𝒱₀ (c : Thread nD τ) none) Set.univ k Q

/-! ## Assertions -/

/-- The arrays' contents at some share. -/
def xAny (c : Dev nD) : sProp 𝕄 := iprop(∃ q, xM.view.loc (c : Thread nD τ) ↦{q} xIn m c)
def wAny (c : Dev nD) : sProp 𝕄 := iprop(∃ q, wM.view.loc (c : Thread nD τ) ↦{q} wIn m c)

/-- Fetch buffer `b` by its own elements, at any contents, reading as `v`. -/
def bufPts (c : Dev nD) (b : Fin 2) (f : Buf (Elt F) ((bufM b).view.loc (c : Thread nD τ))) : sProp 𝕄 :=
  (bufM b).view.loc (c : Thread nD τ) ↦[(bufM b).view.set]{fullShare} f
def bufAny (c : Dev nD) (b : Fin 2) : sProp 𝕄 := iprop(∃ f, bufPts c b f)
def bufIs (c : Dev nD) (b : Fin 2) (v : Vec F S512x2048 .f32) : sProp 𝕄 :=
  iprop(∃ f, ⌜(bufM b).view.read (Elt F) f = v⌝ ∗ bufPts c b f)

/-- The result's buffer, its column chunk `q` reading as `V q`. -/
def outIs (c : Dev nD) (V : Fin 4 → Vec F S1024x2048 .f32) : sProp 𝕄 :=
  iprop(∃ f : Buf (Elt F) (oM.view.loc (c : Thread nD τ)),
    ⌜∀ q, (oM.access (oRect q)).read (Elt F) f = V q⌝ ∗ oM.view.loc (c : Thread nD τ) ↦{fullShare} f)

/-- What device `c` owes, whatever it has waited on. -/
def owing (c : Dev nD) (l : List (GSem nD τ sig × ℕ)) : sProp 𝕄 := iprop(∃ W, owes (c : Thread nD τ) (owe l) W)

/-- A copy under way into slot `(0, j)`, a fetch under way into buffer `b`. -/
def copying (c : Dev nD) (j : Fin 2) : sProp 𝕄 :=
  Transfers.Flight EC (c : Thread nD τ) (.dma (rS 0 j)) () N (slotIs c 0 j (xval m c 0 j))
def fetching (c : Dev nD) (b : Fin 2) (v : Vec F S512x2048 .f32) : sProp 𝕄 :=
  Transfers.Flight EC (c : Thread nD τ) (.dma (wS b)) () NW (bufIs c b v)

/-! ## Parts of the arrays -/

omit [FloatOps F] in
/-- Part of a share of some elements, the share's rest kept whole. -/
theorem take_part {ℓ : Loc nD τ sig} (S : Finset (Idx ℓ)) (f : Buf (Elt F) ℓ) :
    (iprop(∃ q, ℓ ↦{q} f) : sProp 𝕄) ⊢ iprop((∃ q, ℓ ↦{q} f) ∗ ∃ q, ℓ ↦[S]{q} f) := by
  iintro ⟨%q, H⟩
  ihave H := (pointsTo_share (PosShare.mem_left_op_right q)).1 $$ H
  icases H with ⟨H1, H2⟩
  isplitl [H1]; · iexists q.left; iexact H1
  ihave H2 := (pointsTo_split_subset (Finset.subset_univ S)).1 $$ H2
  icases H2 with ⟨H2, -⟩
  iexists q.right; iexact H2

theorem xval_pe (c : Dev nD) (o : Fin 4) (j : Fin 2) : xval m (pe c o) o j = (xsM c o j).view.read (Elt F) (xIn m c) := by
  unfold xval; rw [pm_pe]
theorem pm_zero (c : Dev nD) : pm c 0 = c := by revert c; decide
theorem xval_zero (c : Dev nD) (j : Fin 2) : xval m c 0 j = (xsM c 0 j).view.read (Elt F) (xIn m c) := by
  unfold xval; rw [pm_zero]

theorem slot_landed (c : Dev nD) (o : Fin 4) (j : Fin 2) (fd : Buf (Elt F) ((slotM o j).view.loc (c : Thread nD τ))) (w : Vec F S1024x512 .f32) :
    ((slotM o j).view.loc (c : Thread nD τ) ↦[(slotM o j).view.set]{fullShare} ((slotM o j).view.write (Elt F) fd w Finset.univ) : sProp 𝕄)
      ⊢ slotIs c o j w := by
  unfold slotIs slotPts
  iintro H
  iexists ((slotM o j).view.write (Elt F) fd w Finset.univ)
  isplitr [H]; · ipureintro; exact View.read_write_univ _ _
  iexact H
theorem buf_landed (c : Dev nD) (b : Fin 2) (fd : Buf (Elt F) ((bufM b).view.loc (c : Thread nD τ))) (w : Vec F S512x2048 .f32) :
    ((bufM b).view.loc (c : Thread nD τ) ↦[(bufM b).view.set]{fullShare} ((bufM b).view.write (Elt F) fd w Finset.univ) : sProp 𝕄)
      ⊢ bufIs c b w := by
  unfold bufIs bufPts
  iintro H
  iexists ((bufM b).view.write (Elt F) fd w Finset.univ)
  isplitr [H]; · ipureintro; exact View.read_write_univ _ _
  iexact H

theorem pay_bar (c : Dev nD) (o : Fin 4) : pay m c none o = iprop(slotAny (pe c o) o 0 ∗ slotAny (pe c o) o 1) := rfl
theorem pay_send (c : Dev nD) (h : Fin 3) (j : Fin 2) (o : Fin 4) : pay m c (some (false, h, j)) o = iprop(emp) := rfl
theorem pay_recv (c : Dev nD) (h : Fin 3) (j : Fin 2) (o : Fin 4) : pay m c (some (true, h, j)) o = slotIs c h.succ j (xval m c h.succ j) := rfl

/-! ## Signals and the barrier -/

section Rules

variable (K : Dev nD × CK → ℕ)

theorem st_signal {Q : PUnit → sProp 𝕄} {k : PG F} (c t : Dev nD) (o : Fin 4) (ho : o ∈ dut none) (hpe : pe t o = c) (l : List (GSem nD τ sig × ℕ)) :
    iprop(records m K ∗ owing c ((barCell t, 1) :: l) ∗ dutyTok ER (barCell t) 0 o ∗ slotAny c o 0 ∗ slotAny c o 1)
      ⊢ iprop((owing c l -∗ WP c k Q) -∗ WP c (pSignal t k) Q) := by
  unfold owing WP pSignal
  iintro ⟨#HR, ⟨%W, HO⟩, Ht, H0, H1⟩ Hk
  iapply (Rounds.wp_signal 𝒱₀ ER (Rd m) (c : Thread nD τ) none (dst := (t : Thread nD τ)) (κ := K (t, none))
      (d := o) (by rw [duties_k m (t, none)]; exact ho) ((amount_k m (t, none) o).trans (show 1 = (1#32).toNat by decide)) () (owe l) rfl) $$ [HO Ht H0 H1]
  · isplitr; · iapply (records_inv m K (t, none)); iexact HR
    isplitl [HO]; · iexact HO
    isplitl [Ht]; · iexact Ht
    isplitl [H0 H1]
    · rw [payload_k m (t, none)]; dsimp only; rw [pay_bar, hpe]
      isplitl [H0]; · iexact H0
      iexact H1
    · iapply (records_reached m K (t, none)); iexact HR
  iintro HO
  iapply Hk
  iexists W; iexact HO

theorem st_barrier {Q : PUnit → sProp 𝕄} {k : PG F} (c : Dev nD) :
    iprop(records m K ∗ levAts L lv ∗ cred (tallyAt (barCell c) () 3) ∗ owing c (owedSends c) ∗ atPos ER (barCell c) 0 ∅ 0)
      ⊢ iprop(((owing c (owedSends c) ∗ atPos ER (barCell c) 1 ∅ 0
            ∗ (slotAny (pe c 1) 1 0 ∗ slotAny (pe c 1) 1 1) ∗ (slotAny (pe c 2) 2 0 ∗ slotAny (pe c 2) 2 1)
            ∗ (slotAny (pe c 3) 3 0 ∗ slotAny (pe c 3) 3 1)) -∗ WP c k Q) -∗ WP c (pBarrier k) Q) := by
  unfold owing WP pBarrier
  iintro ⟨#HR, #Hlev, Hc, ⟨%W, HO⟩, Hat⟩ Hk
  iapply (Rounds.wp_wait_rest_token 𝒱₀ ER (Rd m) (c : Thread nD τ) none (κ := K (c, none))
      (wpE_semWait_eq 𝒱₀ (c : Thread nD τ) none Set.univ) (Set.mem_univ _) () (O := owe (owedSends c)) (W := W) (R := 0) (m := 0) (T := ∅)
      (by rw [expect_bar]; decide)) $$ [Hc HO Hat]
  · isplitr; · iapply (records_inv m K (c, none)); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-! ## Remote copies -/

/-- The library's rule at these cells. -/
theorem send_rule {Q : PUnit → sProp 𝕄} (c : Dev nD) (h : Fin 3) (j : Fin 2) {hs : (xsM c h.succ j).view.WordExact}
    {hd : (slotM h.succ j).view.WordExact}
    {hsc : (slotM h.succ j : Memref sig (Dev.tc (pe c h.succ) : Thread nD τ).2.kind .vmem S1024x512 .f32).view.ref.isScScratch = false}
    {hsem : DmaTarget.Typed .hbm (.dma (rS h.succ j)) (.remote (Dev.tc (pe c h.succ) : Thread nD τ) (slotM h.succ j) (.dma (sS h.succ j)) hsc)}
    (q : PosShare TreeShare) (fd : Buf (Elt F) ((slotM h.succ j).view.loc (pe c h.succ : Thread nD τ)))
    (l : List (GSem nD τ sig × ℕ)) (W : Waits sig Unit) {k : PUnit → PG F} :
    iprop(cellInv ER (Rd m) (K (c, some (false, h, j))) (sendCell c h j)
        ∗ cellInv ER (Rd m) (K (pe c h.succ, some (true, h, j))) (recvCell (pe c h.succ) h j)
        ∗ ((xsM c h.succ j).view.loc (c : Thread nD τ) ↦[(xsM c h.succ j).view.set]{q} xIn m c)
        ∗ ((slotM h.succ j).view.loc (pe c h.succ : Thread nD τ) ↦[(slotM h.succ j).view.set]{fullShare} fd)
        ∗ owes (c : Thread nD τ) (owe ((recvCell (pe c h.succ) h j, N) :: l)) W
        ∗ dutyTok ER (sendCell c h j) 0 0 ∗ reached ER (sendCell c h j) 0
        ∗ dutyTok ER (recvCell (pe c h.succ) h j) 0 0 ∗ reached ER (recvCell (pe c h.succ) h j) 0)
      ⊢ iprop(((cred (tallyAt (sendCell c h j) () N) ∗ owes (c : Thread nD τ) (owe l) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xsM c h.succ j) (.remote (Dev.tc (pe c h.succ) : Thread nD τ) (slotM h.succ j) (.dma (sS h.succ j)) hsc)
              (.dma (rS h.succ j)) hs hd hsem) k) Q) :=
  Rounds.wp_send_pointsTo 𝒱₀ ER (Rd m) (c : Thread nD τ) none (κ₁ := K (c, some (false, h, j))) (κ₂ := K (pe c h.succ, some (true, h, j)))
    (r₁ := 0) (r₂ := 0) (d₁ := 0) (d₂ := 0) (fd := fd)
    (by rw [duties_k m (c, some (false, h, j))]; exact Finset.mem_singleton_self _)
    (by rw [duties_k m (pe c h.succ, some (true, h, j))]; exact Finset.mem_singleton_self _)
    () () N (show (slotM h.succ j).view.amount (.dma (rS h.succ j)) = N from N_slot h.succ j) (amount_k m (c, some (false, h, j)) 0) (amount_k m (pe c h.succ, some (true, h, j)) 0) (owe l) rfl (W := W)
    (by rw [payload_k m (c, some (false, h, j))]; dsimp only; rw [pay_send]; iintro -; iempintro)
    (by rw [payload_k m (pe c h.succ, some (true, h, j))]; dsimp only; rw [pay_recv, xval_pe]; exact slot_landed _ _ _ _ _)

theorem st_send {Q : PUnit → sProp 𝕄} {k : PG F} (c t : Dev nD) (h : Fin 3) (j : Fin 2) (ht : t = pe c h.succ) (src : Memref sig .tc .hbm S1024x512 .f32)
    (hs : src.view.WordExact) (hsrc : src = xsM c h.succ j) (l : List (GSem nD τ sig × ℕ)) :
    iprop(records m K ∗ xAny m c ∗ owing c ((recvCell (pe c h.succ) h j, N) :: l) ∗ slotAny (pe c h.succ) h.succ j
        ∗ dutyTok ER (sendCell c h j) 0 0 ∗ dutyTok ER (recvCell (pe c h.succ) h j) 0 0)
      ⊢ iprop(((xAny m c ∗ owing c l ∗ cred (tallyAt (sendCell c h j) () N)) -∗ WP c k Q) -∗ WP c (pSend t h.succ j src hs k) Q) := by
  subst ht hsrc
  unfold owing WP pSend xAny
  iintro ⟨#HR, Hx, ⟨%W, HO⟩, Hd, Ht1, Ht2⟩ Hk
  ihave Hx := (take_part (xsM c h.succ j).view.set (xIn m c)) $$ Hx
  icases Hx with ⟨Hx, ⟨%q, Hs⟩⟩
  unfold slotAny slotPts
  icases Hd with ⟨%fd, Hd⟩
  iapply (send_rule m K c h j q fd l W) $$ [Hs Hd HO Ht1 Ht2]
  · isplitr; · iapply (records_inv m K (c, some (false, h, j))); iexact HR
    isplitr; · iapply (records_inv m K (pe c h.succ, some (true, h, j))); iexact HR
    isplitl [Hs]; · iexact Hs
    isplitl [Hd]; · iexact Hd
    isplitl [HO]; · iexact HO
    isplitl [Ht1]; · iexact Ht1
    isplitr; · iapply (records_reached m K (c, some (false, h, j))); iexact HR
    isplitl [Ht2]; · iexact Ht2
    iapply (records_reached m K (pe c h.succ, some (true, h, j))); iexact HR
  iintro ⟨Hc, HO⟩
  iapply Hk
  isplitl [Hx]; · iexact Hx
  isplitl [HO]; · iexists _; iexact HO
  iexact Hc

theorem st_recv {Q : PUnit → sProp 𝕄} {k : PG F} (c : Dev nD) (h : Fin 3) (j : Fin 2) :
    iprop(records m K ∗ cred (tallyAt (recvCell c h j) () N) ∗ owing c [] ∗ atPos ER (recvCell c h j) 0 ∅ 0)
      ⊢ iprop(((owing c [] ∗ atPos ER (recvCell c h j) 1 ∅ 0 ∗ slotIs c h.succ j (xval m c h.succ j)) -∗ WP c k Q)
          -∗ WP c (pRecv h.succ j k) Q) := by
  unfold owing WP pRecv
  iintro ⟨#HR, Hc, ⟨%W, HO⟩, Hat⟩ Hk
  iapply (Rounds.wp_wait_rest_token 𝒱₀ ER (Rd m) (c : Thread nD τ) none (κ := K (c, some (true, h, j)))
      (wpE_waitDma2_eq 𝒱₀ (c : Thread nD τ) none Set.univ) (Set.mem_univ _) () (O := 0) (W := W) (R := 0) (m := 0) (T := ∅)
      (by rw [Nat.zero_add]; exact (N_slot _ _).trans (expect_xfer m c (true, h, j)).symm)) $$ [Hc HO Hat]
  · isplitr; · iapply (records_inv m K (c, some (true, h, j))); iexact HR
    isplitl [Hc]; · rw [N_slot]; iexact Hc
    isplitl [HO]; · iexact HO
    isplitr; · rw [MayWait_zero]; iempintro
    iexact Hat
  iintro ⟨HO, Hat, -, Hp⟩
  ihave Hp := (Entails.of_eq ((rest_xfer m c (true, h, j)).trans (pay_recv m c h j 0))) $$ Hp
  iapply Hk
  isplitl [HO]; · iexists _; iexact HO
  isplitl [Hat]; · iexact Hat
  iexact Hp

theorem st_sent {Q : PUnit → sProp 𝕄} {k : PG F} (c : Dev nD) (h : Fin 3) (j : Fin 2) (src : Memref sig .tc .hbm S1024x512 .f32)
    (hs : src.view.WordExact) (hsrc : src = xsM c h.succ j) :
    iprop(records m K ∗ cred (tallyAt (sendCell c h j) () N) ∗ owing c [] ∗ atPos ER (sendCell c h j) 0 ∅ 0)
      ⊢ iprop(((owing c [] ∗ atPos ER (sendCell c h j) 1 ∅ 0) -∗ WP c k Q) -∗ WP c (pSent h.succ j src hs k) Q) := by
  subst hsrc
  unfold owing WP pSent
  have hN : (xsM c h.succ j).view.dmaCredit = N := by unfold N; rfl
  iintro ⟨#HR, Hc, ⟨%W, HO⟩, Hat⟩ Hk
  iapply (Rounds.wp_wait_rest_token 𝒱₀ ER (Rd m) (c : Thread nD τ) none (κ := K (c, some (false, h, j)))
      (wpE_waitDma2_eq 𝒱₀ (c : Thread nD τ) none Set.univ) (Set.mem_univ _) () (O := 0) (W := W) (R := 0) (m := 0) (T := ∅)
      (by rw [Nat.zero_add]; exact hN.trans (expect_xfer m c (false, h, j)).symm)) $$ [Hc HO Hat]
  · isplitr; · iapply (records_inv m K (c, some (false, h, j))); iexact HR
    isplitl [Hc]; · rw [hN]; iexact Hc
    isplitl [HO]; · iexact HO
    isplitr; · rw [MayWait_zero]; iempintro
    iexact Hat
  iintro ⟨HO, Hat, -, -⟩
  iapply Hk
  isplitl [HO]; · iexists _; iexact HO
  iexact Hat

/-! ## This device's own copies -/

theorem st_copy {Q : PUnit → sProp 𝕄} {k : PG F} (c : Dev nD) (j : Fin 2) (src : Memref sig .tc .hbm S1024x512 .f32) (hs : src.view.WordExact) (hsrc : src = xsM c 0 j) :
    iprop(xAny m c ∗ slotAny c 0 j ∗ semVal ((c : Thread nD τ), .dma (rS 0 j)) 0)
      ⊢ iprop(((xAny m c ∗ copying m c j) -∗ WP c k Q) -∗ WP c (pCopy j src hs k) Q) := by
  subst hsrc
  unfold WP pCopy xAny slotAny slotPts
  iintro ⟨Hx, ⟨%fd, Hd⟩, Hv⟩ Hk
  ihave Hx := (take_part (xsM c 0 j).view.set (xIn m c)) $$ Hx
  icases Hx with ⟨Hx, ⟨%q, Hs⟩⟩
  iapply (Transfers.wp_dmaLocal EC 𝒱₀ (c : Thread nD τ) none (src := xsM c 0 j) (dst := slotM 0 j) (sm := .dma (rS 0 j)) () N (N_slot 0 j) N_pos subset_rfl) $$ [Hs Hd Hv]
  · isplitl [Hs]; · iexact Hs
    isplitl [Hd]; · iexact Hd
    iexact Hv
  iintro Hf
  iapply Hk
  isplitl [Hx]; · iexact Hx
  unfold copying
  rw [xval_zero]
  iapply (Transfers.Flight_mono EC (c : Thread nD τ) (sep_elim_left.trans (slot_landed c 0 j fd _))) $$ Hf

theorem st_copied {Q : PUnit → sProp 𝕄} {k : PG F} (c : Dev nD) (j : Fin 2) (src : Memref sig .tc .hbm S1024x512 .f32) (hs : src.view.WordExact) :
    iprop(copying m c j ∗ owing c [])
      ⊢ iprop(((slotIs c 0 j (xval m c 0 j) ∗ semVal ((c : Thread nD τ), .dma (rS 0 j)) 0 ∗ owing c []) -∗ WP c k Q) -∗ WP c (pCopied j src hs k) Q) := by
  unfold WP pCopied copying owing
  iintro ⟨Hf, ⟨%W, HO⟩⟩ Hk
  iapply (Transfers.wp_waitLocal EC 𝒱₀ (c : Thread nD τ) none () (N_slot 0 j)) $$ [Hf HO]
  · isplitl [Hf]; · iexact Hf
    iexact HO
  iintro ⟨Hd, Hv, HO⟩
  iapply Hk
  isplitl [Hd]; · iexact Hd
  isplitl [Hv]; · iexact Hv
  iexists _; iexact HO

/-! ## Fetches -/

theorem st_fetch {Q : PUnit → sProp 𝕄} {k : PG F} (c : Dev nD) (b : Fin 2) (o : Fin 4) (j : Fin 2) (q : Fin 4) (src : Memref sig .tc .hbm S512x2048 .f32) (hs : src.view.WordExact)
    (hsrc : src = wsM c o j q) :
    iprop(wAny m c ∗ bufAny c b ∗ semVal ((c : Thread nD τ), .dma (wS b)) 0)
      ⊢ iprop(((wAny m c ∗ fetching c b (wval m c o j q)) -∗ WP c k Q) -∗ WP c (pFetch b src hs k) Q) := by
  subst hsrc
  unfold WP pFetch wAny bufAny bufPts
  iintro ⟨Hx, ⟨%fd, Hd⟩, Hv⟩ Hk
  ihave Hx := (take_part (wsM c o j q).view.set (wIn m c)) $$ Hx
  icases Hx with ⟨Hx, ⟨%qs, Hs⟩⟩
  iapply (Transfers.wp_dmaLocal EC 𝒱₀ (c : Thread nD τ) none (src := wsM c o j q) (dst := bufM b) (sm := .dma (wS b)) () NW (NW_buf b) NW_pos subset_rfl) $$ [Hs Hd Hv]
  · isplitl [Hs]; · iexact Hs
    isplitl [Hd]; · iexact Hd
    iexact Hv
  iintro Hf
  iapply Hk
  isplitl [Hx]; · iexact Hx
  unfold fetching
  iapply (Transfers.Flight_mono EC (c : Thread nD τ) (sep_elim_left.trans (buf_landed c b fd _))) $$ Hf

theorem st_fetched {Q : PUnit → sProp 𝕄} {k : PG F} (c : Dev nD) (b : Fin 2) (v : Vec F S512x2048 .f32) (src : Memref sig .tc .hbm S512x2048 .f32) (hs : src.view.WordExact) :
    iprop(fetching c b v ∗ owing c [])
      ⊢ iprop(((bufIs c b v ∗ semVal ((c : Thread nD τ), .dma (wS b)) 0 ∗ owing c []) -∗ WP c k Q) -∗ WP c (pFetched b src hs k) Q) := by
  unfold WP pFetched fetching owing
  iintro ⟨Hf, ⟨%W, HO⟩⟩ Hk
  iapply (Transfers.wp_waitLocal EC 𝒱₀ (c : Thread nD τ) none () (NW_buf b)) $$ [Hf HO]
  · isplitl [Hf]; · iexact Hf
    iexact HO
  iintro ⟨Hd, Hv, HO⟩
  iapply Hk
  isplitl [Hd]; · iexact Hd
  isplitl [Hv]; · iexact Hv
  iexists _; iexact HO

/-! ## The arithmetic -/

/-- The product of a slot's block and a fetched block. -/
def dotm (v : Vec F S1024x512 .f32) (w : Vec F S512x2048 .f32) : FVec F S1024x2048 .f32 :=
  matmul dot_S1024x512_S512x2048_S1024x2048_1_0_0_1_n_n none v w (constant S1024x2048 .f32 0x00000000#32)

theorem slot_load (o : Fin 4) (j : Fin 2) (f : cM.view.ty.Contents (Elt F)) :
    shapeCast S1024x512 (cM.view.readAt (Elt F) (cRect o j).toLoadRect f : Vec F S1x1x1024x512 .f32) shapeCasts_S1x1x1024x512_S1024x512
      = (slotM o j).view.read (Elt F) f := rfl
theorem buf_load (b : Fin 2) (f : bM.view.ty.Contents (Elt F)) :
    shapeCast S512x2048 (bM.view.readAt (Elt F) (bRect b).toLoadRect f : Vec F S1x512x2048 .f32) shapeCasts_S1x512x2048_S512x2048
      = (bufM b).view.read (Elt F) f := rfl

theorem slot_sub (o : Fin 4) (j : Fin 2) : cM.view.setOn (cRect o j).toLoadRect.set ⊆ (slotM o j).view.set := by
  rw [Memref.set_view_squeeze]; exact (View.set_slice _ _).symm.subset
theorem buf_sub (b : Fin 2) : bM.view.setOn (bRect b).toLoadRect.set ⊆ (bufM b).view.set := by
  rw [Memref.set_view_squeeze]; exact (View.set_slice _ _).symm.subset

theorem oRect_disj {q q' : Fin 4} (h : q ≠ q') : Disjoint (oRect q).set (oRect q').set :=
  Rect.unit_disjoint 1 (by
    have : q.val ≠ q'.val := fun e => h (Fin.ext e)
    show 2048 * q.val + 2048 ≤ 2048 * q'.val ∨ 2048 * q'.val + 2048 ≤ 2048 * q.val
    omega)

theorem out_write (q : Fin 4) (f : oM.view.ty.Contents (Elt F)) (w : Vec F S1024x2048 .f32) (V : Fin 4 → Vec F S1024x2048 .f32)
    (hV : ∀ q, (oM.access (oRect q)).read (Elt F) f = V q) :
    ∀ q', (oM.access (oRect q')).read (Elt F) ((oM.access (oRect q)).write (Elt F) f w Finset.univ) = Function.update V q w q' := by
  intro q'
  by_cases h : q' = q
  · subst h; rw [View.read_write_univ, Function.update_self]
  · rw [Function.update_of_ne h, ← hV]
    exact View.read_slice_write_slice_of_disjoint (v := oM.view) (oRect q') (oRect q) f w Finset.univ (View.disjoint_slice (oRect_disj h))

theorem st_first {Q : PUnit → sProp 𝕄} {k : PG F} (c : Dev nD) (b : Fin 2) (o : Fin 4) (j : Fin 2) (q : Fin 4) (v : Vec F S1024x512 .f32) (w : Vec F S512x2048 .f32)
    (V : Fin 4 → Vec F S1024x2048 .f32) :
    iprop(slotIs c o j v ∗ bufIs c b w ∗ outIs c V)
      ⊢ iprop(((slotIs c o j v ∗ bufAny c b ∗ outIs c (Function.update V q (dotm v w))) -∗ WP c k Q) -∗ WP c (pFirst b o j q k) Q) := by
  unfold WP pFirst slotIs slotPts bufIs bufPts outIs
  iintro ⟨⟨%fc, %hfc, Hc⟩, ⟨%fb, %hfb, Hb⟩, ⟨%fo, %hfo, Ho⟩⟩ Hk
  iapply (wp_load 𝒱₀ (c : Thread nD τ) none Set.univ (m := cM) (slot_sub o j)) $$ Hc; iintro Hc
  iapply (wp_load 𝒱₀ (c : Thread nD τ) none Set.univ (m := bM) (buf_sub b)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := oRect q) (Mk := Finset.univ) (Finset.subset_univ _)) $$ Ho; iintro Ho
  have hd : dotp (cM.view.readAt (Elt F) (cRect o j).toLoadRect fc) (bM.view.readAt (Elt F) (bRect b).toLoadRect fb) = dotm v w := by
    unfold dotp dotm; rw [slot_load, buf_load, hfc, hfb]
  rw [hd]
  iapply Hk
  isplitl [Hc]
  · iexists fc; isplitr; · (ipureintro; exact hfc)
    iexact Hc
  isplitl [Hb]; · unfold bufAny bufPts; iexists fb; iexact Hb
  iexists _
  isplitr [Ho]; · (ipureintro; exact out_write q fo (dotm v w) V hfo)
  iexact Ho

theorem st_step {Q : PUnit → sProp 𝕄} {k : PG F} (pay : Vec F S1x1x1024x512 .f32 → Vec F S1x512x2048 .f32 → Vec F S1024x2048 .f32 → FVec F S1024x2048 .f32)
    (c : Dev nD) (b : Fin 2) (o : Fin 4) (j : Fin 2) (q : Fin 4) (v : Vec F S1024x512 .f32) (w : Vec F S512x2048 .f32)
    (V : Fin 4 → Vec F S1024x2048 .f32) (r : Vec F S1024x2048 .f32)
    (hr : ∀ v' w', shapeCast S1024x512 v' shapeCasts_S1x1x1024x512_S1024x512 = v →
      shapeCast S512x2048 w' shapeCasts_S1x512x2048_S512x2048 = w → pay v' w' (V q) = r) :
    iprop(slotIs c o j v ∗ bufIs c b w ∗ outIs c V)
      ⊢ iprop(((slotIs c o j v ∗ bufAny c b ∗ outIs c (Function.update V q r)) -∗ WP c k Q) -∗ WP c (pStep pay b o j q k) Q) := by
  unfold WP pStep slotIs slotPts bufIs bufPts outIs
  iintro ⟨⟨%fc, %hfc, Hc⟩, ⟨%fb, %hfb, Hb⟩, ⟨%fo, %hfo, Ho⟩⟩ Hk
  iapply (wp_load 𝒱₀ (c : Thread nD τ) none Set.univ (m := cM) (slot_sub o j)) $$ Hc; iintro Hc
  iapply (wp_load 𝒱₀ (c : Thread nD τ) none Set.univ (m := bM) (buf_sub b)) $$ Hb; iintro Hb
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := oRect q) (Mk := Finset.univ) (Finset.subset_univ _)) $$ Ho; iintro Ho
  have hd : pay (cM.view.readAt (Elt F) (cRect o j).toLoadRect fc) (bM.view.readAt (Elt F) (bRect b).toLoadRect fb)
      (oM.view.readAt (Elt F) (oRect q).toLoadRect fo) = r := by
    have := hr _ _ ((slot_load o j fc).trans hfc) ((buf_load b fb).trans hfb)
    rw [← hfo q] at this; exact this
  rw [hd]
  iapply Hk
  isplitl [Hc]
  · iexists fc; isplitr; · (ipureintro; exact hfc)
    iexact Hc
  isplitl [Hb]; · unfold bufAny bufPts; iexists fb; iexact Hb
  iexists _
  isplitr [Ho]; · (ipureintro; exact out_write q fo r V hfo)
  iexact Ho

end Rules

end Cert.KernelIdeal.Mesh

end
-- ==== Proof.Body.lean ====
module

public import proofs.«01_k».proof.Proof.Steps

/-! # The body, run symbolically

The opening (barrier, copies, first fetches), eight blocks of four steps over one landing slot each, and the closing waits,
each an assertion about device `c` taken to another; then the whole. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the result's chunks come to hold -/

/-- The product over slot `(o, j)`, chunk `q`; -/
def prod (c : Dev nD) (o : Fin 4) (j : Fin 2) (q : Fin 4) : Vec F S1024x2048 .f32 := dotm (xval m c o j) (wval m c o j q)
/-- added to what is there; -/
def addV (c : Dev nD) (o : Fin 4) (j : Fin 2) (V : Fin 4 → Vec F S1024x2048 .f32) (q : Fin 4) : Vec F S1024x2048 .f32 :=
  addf (V q) (prod m c o j q)
/-- and put through the activation. -/
def actV (c : Dev nD) (o : Fin 4) (j : Fin 2) (V : Fin 4 → Vec F S1024x2048 .f32) (q : Fin 4) : Vec F S1024x2048 .f32 :=
  mulf (addV m c o j V q) (logistic (addV m c o j V q))
/-- After the first `k` blocks; -/
def sum1 (c : Dev nD) : Fin 4 → Vec F S1024x2048 .f32 := prod m c 0 0
def sum2 (c : Dev nD) := addV m c 0 1 (sum1 m c)
def sum3 (c : Dev nD) := addV m c 1 0 (sum2 m c)
def sum4 (c : Dev nD) := addV m c 3 0 (sum3 m c)
def sum5 (c : Dev nD) := addV m c 1 1 (sum4 m c)
def sum6 (c : Dev nD) := addV m c 3 1 (sum5 m c)
def sum7 (c : Dev nD) := addV m c 2 0 (sum6 m c)
/-- after all eight. -/
def outV (c : Dev nD) := actV m c 2 1 (sum7 m c)

theorem upd4 {α : Type} (V : Fin 4 → α) (a b c d : α) (W : Fin 4 → α) (h0 : a = W 0) (h1 : b = W 1) (h2 : c = W 2) (h3 : d = W 3) :
    Function.update (Function.update (Function.update (Function.update V 0 a) 1 b) 2 c) 3 d = W := by
  funext q; fin_cases q <;> simp [Function.update, h0, h1, h2, h3]

/-! ## Blocks -/

/-- Six assertions, one for each slot written from afar. -/
def six (P : Fin 3 → Fin 2 → sProp 𝕄) : sProp 𝕄 := iprop(P 0 0 ∗ P 2 0 ∗ P 1 0 ∗ P 0 1 ∗ P 2 1 ∗ P 1 1)

/-- Four steps over slot `(o, j)`, the first two blocks for slot `(o', j')` fetched on the way. -/
def midP (pay : Vec F S1x1x1024x512 .f32 → Vec F S1x512x2048 .f32 → Vec F S1024x2048 .f32 → FVec F S1024x2048 .f32)
    (d : Dev nD) (o : Fin 4) (j : Fin 2) (o' : Fin 4) (j' : Fin 2) (k : PG F) : PG F :=
  pFetched 0 (ws0 d o j) (View.wordExact_bits rfl) <|
  pStep pay 0 o j 0 <|
  pFetch 0 (ws2 d o j) (View.wordExact_bits rfl) <|
  pFetched 1 (ws1 d o j) (View.wordExact_bits rfl) <|
  pStep pay 1 o j 1 <|
  pFetch 1 (ws3 d o j) (View.wordExact_bits rfl) <|
  pFetched 0 (ws2 d o j) (View.wordExact_bits rfl) <|
  pStep pay 0 o j 2 <|
  pFetch 0 (ws0 d o' j') (View.wordExact_bits rfl) <|
  pFetched 1 (ws3 d o j) (View.wordExact_bits rfl) <|
  pStep pay 1 o j 3 <|
  pFetch 1 (ws1 d o' j') (View.wordExact_bits rfl) <|
  k

/-- The state between blocks: the second array, the two fetches for slot `(o, j)` under way, nothing owed, the sums so far. -/
def mid (c : Dev nD) (o : Fin 4) (j : Fin 2) (V : Fin 4 → Vec F S1024x2048 .f32) : sProp 𝕄 :=
  iprop(wAny m c ∗ fetching c 0 (wval m c o j 0) ∗ fetching c 1 (wval m c o j 1) ∗ owing c [] ∗ outIs c V)

theorem accp_eq (v' : Vec F S1x1x1024x512 .f32) (w' : Vec F S1x512x2048 .f32) (y : Vec F S1024x2048 .f32) (v : Vec F S1024x512 .f32)
    (w : Vec F S512x2048 .f32) (hv : shapeCast S1024x512 v' shapeCasts_S1x1x1024x512_S1024x512 = v)
    (hw : shapeCast S512x2048 w' shapeCasts_S1x512x2048_S512x2048 = w) : accp v' w' y = addf y (dotm v w) := by
  unfold accp dotp dotm; rw [hv, hw, show shapeCast S1024x2048 y shapeCasts_S1024x2048_S1024x2048 = y from
    funext fun i => congrArg y (Shape.reshapeEquiv_self _ i)]
theorem actp_eq (v' : Vec F S1x1x1024x512 .f32) (w' : Vec F S1x512x2048 .f32) (y : Vec F S1024x2048 .f32) (v : Vec F S1024x512 .f32)
    (w : Vec F S512x2048 .f32) (hv : shapeCast S1024x512 v' shapeCasts_S1x1x1024x512_S1024x512 = v)
    (hw : shapeCast S512x2048 w' shapeCasts_S1x512x2048_S512x2048 = w) :
    actp v' w' y = mulf (addf y (dotm v w)) (logistic (addf y (dotm v w))) := by
  unfold actp; rw [accp_eq v' w' y v w hv hw]

/-- The same where the products are stored, and where nothing more is fetched. -/
def firstP (d : Dev nD) (k : PG F) : PG F :=
  pFetched 0 (ws0 d 0 0) (View.wordExact_bits rfl) <|
  pFirst 0 0 0 0 <|
  pFetch 0 (ws2 d 0 0) (View.wordExact_bits rfl) <|
  pFetched 1 (ws1 d 0 0) (View.wordExact_bits rfl) <|
  pFirst 1 0 0 1 <|
  pFetch 1 (ws3 d 0 0) (View.wordExact_bits rfl) <|
  pFetched 0 (ws2 d 0 0) (View.wordExact_bits rfl) <|
  pFirst 0 0 0 2 <|
  pFetch 0 (ws0 d 0 1) (View.wordExact_bits rfl) <|
  pFetched 1 (ws3 d 0 0) (View.wordExact_bits rfl) <|
  pFirst 1 0 0 3 <|
  pFetch 1 (ws1 d 0 1) (View.wordExact_bits rfl) <|
  k
def lastP (d : Dev nD) (o : Fin 4) (j : Fin 2) (k : PG F) : PG F :=
  pFetched 0 (ws0 d o j) (View.wordExact_bits rfl) <|
  pStep actp 0 o j 0 <|
  pFetch 0 (ws2 d o j) (View.wordExact_bits rfl) <|
  pFetched 1 (ws1 d o j) (View.wordExact_bits rfl) <|
  pStep actp 1 o j 1 <|
  pFetch 1 (ws3 d o j) (View.wordExact_bits rfl) <|
  pFetched 0 (ws2 d o j) (View.wordExact_bits rfl) <|
  pStep actp 0 o j 2 <|
  pFetched 1 (ws3 d o j) (View.wordExact_bits rfl) <|
  pStep actp 1 o j 3 <|
  k

theorem blockP0_eq (d : Dev nD) (k : PG F) : blockP0 d k = pCopied 0 (xl0 d) (View.wordExact_bits rfl) (firstP d k) := rfl
theorem blockP1_eq (d : Dev nD) (k : PG F) : blockP1 d k = pCopied 1 (xl1 d) (View.wordExact_bits rfl) (midP accp d 0 1 1 0 k) := rfl
theorem blockP2_eq (d : Dev nD) (k : PG F) : blockP2 d k = pRecv 1 0 (midP accp d 1 0 3 0 k) := rfl
theorem blockP3_eq (d : Dev nD) (k : PG F) : blockP3 d k = pRecv 3 0 (midP accp d 3 0 1 1 k) := rfl
theorem blockP4_eq (d : Dev nD) (k : PG F) : blockP4 d k = pRecv 1 1 (midP accp d 1 1 3 1 k) := rfl
theorem blockP5_eq (d : Dev nD) (k : PG F) : blockP5 d k = pRecv 3 1 (midP accp d 3 1 2 0 k) := rfl
theorem blockP6_eq (d : Dev nD) (k : PG F) : blockP6 d k = pRecv 2 0 (midP accp d 2 0 2 1 k) := rfl
theorem blockP7_eq (d : Dev nD) (k : PG F) : blockP7 d k = pRecv 2 1 (lastP d 2 1 k) := rfl

theorem st_firstP {Q : PUnit → sProp 𝕄} {k : PG F} (c : Dev nD) (V : Fin 4 → Vec F S1024x2048 .f32) :
    iprop(slotIs c 0 0 (xval m c 0 0) ∗ mid m c 0 0 V)
      ⊢ iprop((iprop(slotIs c 0 0 (xval m c 0 0) ∗ mid m c 0 1 (prod m c 0 0)) -∗ WP c k Q) -∗ WP c (firstP c k) Q) := by
  unfold mid
  unfold firstP
  iintro ⟨Hs, Hw, Hf0, Hf1, HO, Hout⟩ Hk
  iapply (st_fetched c 0 (wval m c 0 0 0) (ws0 c 0 0)) $$ [Hf0 HO]
  · isplitl [Hf0]; · iexact Hf0
    iexact HO
  iintro ⟨Hb, Hv0, HO⟩
  iapply (st_first c 0 0 0 0 (xval m c 0 0) (wval m c 0 0 0) V) $$ [Hs Hb Hout]
  · isplitl [Hs]; · iexact Hs
    isplitl [Hb]; · iexact Hb
    iexact Hout
  iintro ⟨Hs, Hb0, Hout⟩
  iapply (st_fetch m c 0 0 0 2 (ws2 c 0 0) _ (ws2_eq c 0 0)) $$ [Hw Hb0 Hv0]
  · isplitl [Hw]; · iexact Hw
    isplitl [Hb0]; · iexact Hb0
    iexact Hv0
  iintro ⟨Hw, Hf0⟩
  iapply (st_fetched c 1 (wval m c 0 0 1) (ws1 c 0 0)) $$ [Hf1 HO]
  · isplitl [Hf1]; · iexact Hf1
    iexact HO
  iintro ⟨Hb, Hv1, HO⟩
  iapply (st_first c 1 0 0 1 (xval m c 0 0) (wval m c 0 0 1) (Function.update V 0 (dotm (xval m c 0 0) (wval m c 0 0 0)))) $$ [Hs Hb Hout]
  · isplitl [Hs]; · iexact Hs
    isplitl [Hb]; · iexact Hb
    iexact Hout
  iintro ⟨Hs, Hb1, Hout⟩
  iapply (st_fetch m c 1 0 0 3 (ws3 c 0 0) _ (ws3_eq c 0 0)) $$ [Hw Hb1 Hv1]
  · isplitl [Hw]; · iexact Hw
    isplitl [Hb1]; · iexact Hb1
    iexact Hv1
  iintro ⟨Hw, Hf1⟩
  iapply (st_fetched c 0 (wval m c 0 0 2) (ws2 c 0 0)) $$ [Hf0 HO]
  · isplitl [Hf0]; · iexact Hf0
    iexact HO
  iintro ⟨Hb, Hv0, HO⟩
  iapply (st_first c 0 0 0 2 (xval m c 0 0) (wval m c 0 0 2) (Function.update (Function.update V 0 (dotm (xval m c 0 0) (wval m c 0 0 0))) 1 (dotm (xval m c 0 0) (wval m c 0 0 1)))) $$ [Hs Hb Hout]
  · isplitl [Hs]; · iexact Hs
    isplitl [Hb]; · iexact Hb
    iexact Hout
  iintro ⟨Hs, Hb0, Hout⟩
  iapply (st_fetch m c 0 0 1 0 (ws0 c 0 1) _ (ws0_eq c 0 1)) $$ [Hw Hb0 Hv0]
  · isplitl [Hw]; · iexact Hw
    isplitl [Hb0]; · iexact Hb0
    iexact Hv0
  iintro ⟨Hw, Hf0⟩
  iapply (st_fetched c 1 (wval m c 0 0 3) (ws3 c 0 0)) $$ [Hf1 HO]
  · isplitl [Hf1]; · iexact Hf1
    iexact HO
  iintro ⟨Hb, Hv1, HO⟩
  iapply (st_first c 1 0 0 3 (xval m c 0 0) (wval m c 0 0 3) (Function.update (Function.update (Function.update V 0 (dotm (xval m c 0 0) (wval m c 0 0 0))) 1 (dotm (xval m c 0 0) (wval m c 0 0 1))) 2 (dotm (xval m c 0 0) (wval m c 0 0 2)))) $$ [Hs Hb Hout]
  · isplitl [Hs]; · iexact Hs
    isplitl [Hb]; · iexact Hb
    iexact Hout
  iintro ⟨Hs, Hb1, Hout⟩
  iapply (st_fetch m c 1 0 1 1 (ws1 c 0 1) _ (ws1_eq c 0 1)) $$ [Hw Hb1 Hv1]
  · isplitl [Hw]; · iexact Hw
    isplitl [Hb1]; · iexact Hb1
    iexact Hv1
  iintro ⟨Hw, Hf1⟩
  ihave Hout := (Entails.of_eq (congrArg (outIs c) (upd4 V (dotm (xval m c 0 0) (wval m c 0 0 0)) (dotm (xval m c 0 0) (wval m c 0 0 1)) (dotm (xval m c 0 0) (wval m c 0 0 2)) (dotm (xval m c 0 0) (wval m c 0 0 3)) (prod m c 0 0) rfl rfl rfl rfl))) $$ Hout
  iapply Hk
  isplitl [Hs]; · iexact Hs
  isplitl [Hw]; · iexact Hw
  isplitl [Hf0]; · iexact Hf0
  isplitl [Hf1]; · iexact Hf1
  isplitl [HO]; · iexact HO
  iexact Hout

theorem st_midP {Q : PUnit → sProp 𝕄} {k : PG F} (c : Dev nD) (o : Fin 4) (j : Fin 2) (o' : Fin 4) (j' : Fin 2) (V : Fin 4 → Vec F S1024x2048 .f32) :
    iprop(slotIs c o j (xval m c o j) ∗ mid m c o j V)
      ⊢ iprop((iprop(slotIs c o j (xval m c o j) ∗ mid m c o' j' (addV m c o j V)) -∗ WP c k Q) -∗ WP c (midP accp c o j o' j' k) Q) := by
  unfold mid
  unfold midP
  iintro ⟨Hs, Hw, Hf0, Hf1, HO, Hout⟩ Hk
  iapply (st_fetched c 0 (wval m c o j 0) (ws0 c o j)) $$ [Hf0 HO]
  · isplitl [Hf0]; · iexact Hf0
    iexact HO
  iintro ⟨Hb, Hv0, HO⟩
  iapply (st_step accp c 0 o j 0 (xval m c o j) (wval m c o j 0) V (addV m c o j V 0)
    (fun v' w' hv hw => by
      rw [accp_eq v' w' _ _ _ hv hw]; rfl)) $$ [Hs Hb Hout]
  · isplitl [Hs]; · iexact Hs
    isplitl [Hb]; · iexact Hb
    iexact Hout
  iintro ⟨Hs, Hb0, Hout⟩
  iapply (st_fetch m c 0 o j 2 (ws2 c o j) _ (ws2_eq c o j)) $$ [Hw Hb0 Hv0]
  · isplitl [Hw]; · iexact Hw
    isplitl [Hb0]; · iexact Hb0
    iexact Hv0
  iintro ⟨Hw, Hf0⟩
  iapply (st_fetched c 1 (wval m c o j 1) (ws1 c o j)) $$ [Hf1 HO]
  · isplitl [Hf1]; · iexact Hf1
    iexact HO
  iintro ⟨Hb, Hv1, HO⟩
  iapply (st_step accp c 1 o j 1 (xval m c o j) (wval m c o j 1) (Function.update V 0 (addV m c o j V 0)) (addV m c o j V 1)
    (fun v' w' hv hw => by
      rw [accp_eq v' w' _ _ _ hv hw]; rfl)) $$ [Hs Hb Hout]
  · isplitl [Hs]; · iexact Hs
    isplitl [Hb]; · iexact Hb
    iexact Hout
  iintro ⟨Hs, Hb1, Hout⟩
  iapply (st_fetch m c 1 o j 3 (ws3 c o j) _ (ws3_eq c o j)) $$ [Hw Hb1 Hv1]
  · isplitl [Hw]; · iexact Hw
    isplitl [Hb1]; · iexact Hb1
    iexact Hv1
  iintro ⟨Hw, Hf1⟩
  iapply (st_fetched c 0 (wval m c o j 2) (ws2 c o j)) $$ [Hf0 HO]
  · isplitl [Hf0]; · iexact Hf0
    iexact HO
  iintro ⟨Hb, Hv0, HO⟩
  iapply (st_step accp c 0 o j 2 (xval m c o j) (wval m c o j 2) (Function.update (Function.update V 0 (addV m c o j V 0)) 1 (addV m c o j V 1)) (addV m c o j V 2)
    (fun v' w' hv hw => by
      rw [accp_eq v' w' _ _ _ hv hw]; rfl)) $$ [Hs Hb Hout]
  · isplitl [Hs]; · iexact Hs
    isplitl [Hb]; · iexact Hb
    iexact Hout
  iintro ⟨Hs, Hb0, Hout⟩
  iapply (st_fetch m c 0 o' j' 0 (ws0 c o' j') _ (ws0_eq c o' j')) $$ [Hw Hb0 Hv0]
  · isplitl [Hw]; · iexact Hw
    isplitl [Hb0]; · iexact Hb0
    iexact Hv0
  iintro ⟨Hw, Hf0⟩
  iapply (st_fetched c 1 (wval m c o j 3) (ws3 c o j)) $$ [Hf1 HO]
  · isplitl [Hf1]; · iexact Hf1
    iexact HO
  iintro ⟨Hb, Hv1, HO⟩
  iapply (st_step accp c 1 o j 3 (xval m c o j) (wval m c o j 3) (Function.update (Function.update (Function.update V 0 (addV m c o j V 0)) 1 (addV m c o j V 1)) 2 (addV m c o j V 2)) (addV m c o j V 3)
    (fun v' w' hv hw => by
      rw [accp_eq v' w' _ _ _ hv hw]; rfl)) $$ [Hs Hb Hout]
  · isplitl [Hs]; · iexact Hs
    isplitl [Hb]; · iexact Hb
    iexact Hout
  iintro ⟨Hs, Hb1, Hout⟩
  iapply (st_fetch m c 1 o' j' 1 (ws1 c o' j') _ (ws1_eq c o' j')) $$ [Hw Hb1 Hv1]
  · isplitl [Hw]; · iexact Hw
    isplitl [Hb1]; · iexact Hb1
    iexact Hv1
  iintro ⟨Hw, Hf1⟩
  ihave Hout := (Entails.of_eq (congrArg (outIs c) (upd4 V (addV m c o j V 0) (addV m c o j V 1) (addV m c o j V 2) (addV m c o j V 3) (addV m c o j V) rfl rfl rfl rfl))) $$ Hout
  iapply Hk
  isplitl [Hs]; · iexact Hs
  isplitl [Hw]; · iexact Hw
  isplitl [Hf0]; · iexact Hf0
  isplitl [Hf1]; · iexact Hf1
  isplitl [HO]; · iexact HO
  iexact Hout

theorem st_lastP {Q : PUnit → sProp 𝕄} {k : PG F} (c : Dev nD) (o : Fin 4) (j : Fin 2) (V : Fin 4 → Vec F S1024x2048 .f32) :
    iprop(slotIs c o j (xval m c o j) ∗ mid m c o j V)
      ⊢ iprop((iprop(slotIs c o j (xval m c o j) ∗ wAny m c ∗ bufAny c 0 ∗ bufAny c 1 ∗ semVal ((c : Thread nD τ), .dma (wS 0)) 0
            ∗ semVal ((c : Thread nD τ), .dma (wS 1)) 0 ∗ owing c [] ∗ outIs c (actV m c o j V)) -∗ WP c k Q) -∗ WP c (lastP c o j k) Q) := by
  unfold mid
  unfold lastP
  iintro ⟨Hs, Hw, Hf0, Hf1, HO, Hout⟩ Hk
  iapply (st_fetched c 0 (wval m c o j 0) (ws0 c o j)) $$ [Hf0 HO]
  · isplitl [Hf0]; · iexact Hf0
    iexact HO
  iintro ⟨Hb, Hv0, HO⟩
  iapply (st_step actp c 0 o j 0 (xval m c o j) (wval m c o j 0) V (actV m c o j V 0)
    (fun v' w' hv hw => by
      rw [actp_eq v' w' _ _ _ hv hw]; rfl)) $$ [Hs Hb Hout]
  · isplitl [Hs]; · iexact Hs
    isplitl [Hb]; · iexact Hb
    iexact Hout
  iintro ⟨Hs, Hb0, Hout⟩
  iapply (st_fetch m c 0 o j 2 (ws2 c o j) _ (ws2_eq c o j)) $$ [Hw Hb0 Hv0]
  · isplitl [Hw]; · iexact Hw
    isplitl [Hb0]; · iexact Hb0
    iexact Hv0
  iintro ⟨Hw, Hf0⟩
  iapply (st_fetched c 1 (wval m c o j 1) (ws1 c o j)) $$ [Hf1 HO]
  · isplitl [Hf1]; · iexact Hf1
    iexact HO
  iintro ⟨Hb, Hv1, HO⟩
  iapply (st_step actp c 1 o j 1 (xval m c o j) (wval m c o j 1) (Function.update V 0 (actV m c o j V 0)) (actV m c o j V 1)
    (fun v' w' hv hw => by
      rw [actp_eq v' w' _ _ _ hv hw]; rfl)) $$ [Hs Hb Hout]
  · isplitl [Hs]; · iexact Hs
    isplitl [Hb]; · iexact Hb
    iexact Hout
  iintro ⟨Hs, Hb1, Hout⟩
  iapply (st_fetch m c 1 o j 3 (ws3 c o j) _ (ws3_eq c o j)) $$ [Hw Hb1 Hv1]
  · isplitl [Hw]; · iexact Hw
    isplitl [Hb1]; · iexact Hb1
    iexact Hv1
  iintro ⟨Hw, Hf1⟩
  iapply (st_fetched c 0 (wval m c o j 2) (ws2 c o j)) $$ [Hf0 HO]
  · isplitl [Hf0]; · iexact Hf0
    iexact HO
  iintro ⟨Hb, Hv0, HO⟩
  iapply (st_step actp c 0 o j 2 (xval m c o j) (wval m c o j 2) (Function.update (Function.update V 0 (actV m c o j V 0)) 1 (actV m c o j V 1)) (actV m c o j V 2)
    (fun v' w' hv hw => by
      rw [actp_eq v' w' _ _ _ hv hw]; rfl)) $$ [Hs Hb Hout]
  · isplitl [Hs]; · iexact Hs
    isplitl [Hb]; · iexact Hb
    iexact Hout
  iintro ⟨Hs, Hb0, Hout⟩
  iapply (st_fetched c 1 (wval m c o j 3) (ws3 c o j)) $$ [Hf1 HO]
  · isplitl [Hf1]; · iexact Hf1
    iexact HO
  iintro ⟨Hb, Hv1, HO⟩
  iapply (st_step actp c 1 o j 3 (xval m c o j) (wval m c o j 3) (Function.update (Function.update (Function.update V 0 (actV m c o j V 0)) 1 (actV m c o j V 1)) 2 (actV m c o j V 2)) (actV m c o j V 3)
    (fun v' w' hv hw => by
      rw [actp_eq v' w' _ _ _ hv hw]; rfl)) $$ [Hs Hb Hout]
  · isplitl [Hs]; · iexact Hs
    isplitl [Hb]; · iexact Hb
    iexact Hout
  iintro ⟨Hs, Hb1, Hout⟩
  ihave Hout := (Entails.of_eq (congrArg (outIs c) (upd4 V (actV m c o j V 0) (actV m c o j V 1) (actV m c o j V 2) (actV m c o j V 3) (actV m c o j V) rfl rfl rfl rfl))) $$ Hout
  iapply Hk
  isplitl [Hs]; · iexact Hs
  isplitl [Hw]; · iexact Hw
  isplitl [Hb0]; · iexact Hb0
  isplitl [Hb1]; · iexact Hb1
  isplitl [Hv0]; · iexact Hv0
  isplitl [Hv1]; · iexact Hv1
  isplitl [HO]; · iexact HO
  iexact Hout

/-! ## The opening -/

section Open

variable (K : Dev nD × CK → ℕ)

/-- What the opening uses; -/
def openPre (c : Dev nD) : sProp 𝕄 :=
  iprop(records m K ∗ levAts L lv ∗ owing c (owedAll c)
    ∗ (dutyTok ER (barCell (pe c 1)) 0 3 ∗ dutyTok ER (barCell (pe c 2)) 0 2 ∗ dutyTok ER (barCell (pe c 3)) 0 1)
    ∗ six (fun h j => dutyTok ER (sendCell c h j) 0 0) ∗ six (fun h j => dutyTok ER (recvCell (pe c h.succ) h j) 0 0)
    ∗ six (fun h j => slotAny c h.succ j) ∗ cred (tallyAt (barCell c) () 3) ∗ atPos ER (barCell c) 0 ∅ 0
    ∗ xAny m c ∗ wAny m c ∗ slotAny c 0 0 ∗ slotAny c 0 1 ∗ bufAny c 0 ∗ bufAny c 1
    ∗ semVal ((c : Thread nD τ), .dma (rS 0 0)) 0 ∗ semVal ((c : Thread nD τ), .dma (rS 0 1)) 0
    ∗ semVal ((c : Thread nD τ), .dma (wS 0)) 0 ∗ semVal ((c : Thread nD τ), .dma (wS 1)) 0)
/-- and what it leaves. -/
def openPost (c : Dev nD) : sProp 𝕄 :=
  iprop(xAny m c ∗ wAny m c ∗ owing c [] ∗ atPos ER (barCell c) 1 ∅ 0 ∗ six (fun h j => cred (tallyAt (sendCell c h j) () N))
    ∗ copying m c 0 ∗ copying m c 1 ∗ fetching c 0 (wval m c 0 0 0) ∗ fetching c 1 (wval m c 0 0 1))

theorem pe_back (c : Dev nD) : pe (pe c 1) 3 = c ∧ pe (pe c 2) 2 = c ∧ pe (pe c 3) 1 = c := by revert c; decide

set_option maxHeartbeats 1000000 in
theorem st_open {Q : PUnit → sProp 𝕄} {k : PG F} (c : Dev nD) :
    openPre m K c ⊢ iprop((openPost m c -∗ WP c k Q) -∗ WP c (startP c k) Q) := by
  unfold openPre six startP
  iintro ⟨#HR, #Hlev, HO, ⟨Ht1, Ht2, Ht3⟩, ⟨Hs10, Hs30, Hs20, Hs11, Hs31, Hs21⟩, ⟨Hr10, Hr30, Hr20, Hr11, Hr31, Hr21⟩,
    ⟨Hl10, Hl30, Hl20, Hl11, Hl31, Hl21⟩, Hcb, Hab, Hx, Hw, Hl00, Hl01, Hb0, Hb1, Hv0, Hv1, Hu0, Hu1⟩ Hk
  iapply (st_signal m K c _ 3 (by decide) (by rw [dev1_eq]; exact (pe_back c).1) _) $$ [HO Ht1 Hl30 Hl31]
  · rw [dev1_eq]
    isplitr; · iexact HR
    isplitl [HO]; · iexact HO
    isplitl [Ht1]; · iexact Ht1
    isplitl [Hl30]; · iexact Hl30
    iexact Hl31
  iintro HO
  iapply (st_signal m K c _ 2 (by decide) (by rw [dev2_eq]; exact (pe_back c).2.1) _) $$ [HO Ht2 Hl20 Hl21]
  · rw [dev2_eq]
    isplitr; · iexact HR
    isplitl [HO]; · iexact HO
    isplitl [Ht2]; · iexact Ht2
    isplitl [Hl20]; · iexact Hl20
    iexact Hl21
  iintro HO
  iapply (st_signal m K c _ 1 (by decide) (by rw [dev3_eq]; exact (pe_back c).2.2) _) $$ [HO Ht3 Hl10 Hl11]
  · rw [dev3_eq]
    isplitr; · iexact HR
    isplitl [HO]; · iexact HO
    isplitl [Ht3]; · iexact Ht3
    isplitl [Hl10]; · iexact Hl10
    iexact Hl11
  iintro HO
  iapply (st_barrier m K c) $$ [Hcb HO Hab]
  · isplitr; · iexact HR
    isplitr; · iexact Hlev
    isplitl [Hcb]; · iexact Hcb
    isplitl [HO]; · iexact HO
    iexact Hab
  iintro ⟨HO, Hab, ⟨Hd10, Hd11⟩, ⟨Hd20, Hd21⟩, ⟨Hd30, Hd31⟩⟩
  iapply (st_send m K c _ 0 0 (dev4_eq c) (xs0 c 0) _ (xs0_eq c 0) _) $$ [Hx HO Hd10 Hs10 Hr10]
  · isplitr; · iexact HR
    isplitl [Hx]; · iexact Hx
    isplitl [HO]; · iexact HO
    isplitl [Hd10]; · iexact Hd10
    isplitl [Hs10]; · iexact Hs10
    iexact Hr10
  iintro ⟨Hx, HO, Hc10⟩
  iapply (st_send m K c _ 2 0 (dev5_eq c) (xs0 c 2) _ (xs0_eq c 2) _) $$ [Hx HO Hd30 Hs30 Hr30]
  · isplitr; · iexact HR
    isplitl [Hx]; · iexact Hx
    isplitl [HO]; · iexact HO
    isplitl [Hd30]; · iexact Hd30
    isplitl [Hs30]; · iexact Hs30
    iexact Hr30
  iintro ⟨Hx, HO, Hc30⟩
  iapply (st_send m K c _ 1 0 (dev6_eq c) (xs0 c 1) _ (xs0_eq c 1) _) $$ [Hx HO Hd20 Hs20 Hr20]
  · isplitr; · iexact HR
    isplitl [Hx]; · iexact Hx
    isplitl [HO]; · iexact HO
    isplitl [Hd20]; · iexact Hd20
    isplitl [Hs20]; · iexact Hs20
    iexact Hr20
  iintro ⟨Hx, HO, Hc20⟩
  iapply (st_send m K c _ 0 1 (dev7_eq c) (xs1 c 0) _ (xs1_eq c 0) _) $$ [Hx HO Hd11 Hs11 Hr11]
  · isplitr; · iexact HR
    isplitl [Hx]; · iexact Hx
    isplitl [HO]; · iexact HO
    isplitl [Hd11]; · iexact Hd11
    isplitl [Hs11]; · iexact Hs11
    iexact Hr11
  iintro ⟨Hx, HO, Hc11⟩
  iapply (st_send m K c _ 2 1 (dev8_eq c) (xs1 c 2) _ (xs1_eq c 2) _) $$ [Hx HO Hd31 Hs31 Hr31]
  · isplitr; · iexact HR
    isplitl [Hx]; · iexact Hx
    isplitl [HO]; · iexact HO
    isplitl [Hd31]; · iexact Hd31
    isplitl [Hs31]; · iexact Hs31
    iexact Hr31
  iintro ⟨Hx, HO, Hc31⟩
  iapply (st_send m K c _ 1 1 (dev9_eq c) (xs1 c 1) _ (xs1_eq c 1) _) $$ [Hx HO Hd21 Hs21 Hr21]
  · isplitr; · iexact HR
    isplitl [Hx]; · iexact Hx
    isplitl [HO]; · iexact HO
    isplitl [Hd21]; · iexact Hd21
    isplitl [Hs21]; · iexact Hs21
    iexact Hr21
  iintro ⟨Hx, HO, Hc21⟩
  iapply (st_copy m c 0 (xl0 c) _ (xl0_eq c)) $$ [Hx Hl00 Hv0]
  · isplitl [Hx]; · iexact Hx
    isplitl [Hl00]; · iexact Hl00
    iexact Hv0
  iintro ⟨Hx, Hcp0⟩
  iapply (st_copy m c 1 (xl1 c) _ (xl1_eq c)) $$ [Hx Hl01 Hv1]
  · isplitl [Hx]; · iexact Hx
    isplitl [Hl01]; · iexact Hl01
    iexact Hv1
  iintro ⟨Hx, Hcp1⟩
  iapply (st_fetch m c 0 0 0 0 (ws0 c 0 0) _ (ws0_eq c 0 0)) $$ [Hw Hb0 Hu0]
  · isplitl [Hw]; · iexact Hw
    isplitl [Hb0]; · iexact Hb0
    iexact Hu0
  iintro ⟨Hw, Hf0⟩
  iapply (st_fetch m c 1 0 0 1 (ws1 c 0 0) _ (ws1_eq c 0 0)) $$ [Hw Hb1 Hu1]
  · isplitl [Hw]; · iexact Hw
    isplitl [Hb1]; · iexact Hb1
    iexact Hu1
  iintro ⟨Hw, Hf1⟩
  iapply Hk
  unfold openPost six
  isplitl [Hx]; · iexact Hx
  isplitl [Hw]; · iexact Hw
  isplitl [HO]; · iexact HO
  isplitl [Hab]; · iexact Hab
  isplitl [Hc10 Hc30 Hc20 Hc11 Hc31 Hc21]
  · isplitl [Hc10]; · iexact Hc10
    isplitl [Hc30]; · iexact Hc30
    isplitl [Hc20]; · iexact Hc20
    isplitl [Hc11]; · iexact Hc11
    isplitl [Hc31]; · iexact Hc31
    iexact Hc21
  isplitl [Hcp0]; · iexact Hcp0
  isplitl [Hcp1]; · iexact Hcp1
  isplitl [Hf0]; · iexact Hf0
  iexact Hf1

/-! ## The eight blocks -/

/-- What the blocks use; -/
def workPre (c : Dev nD) : sProp 𝕄 :=
  iprop(records m K ∗ wAny m c ∗ owing c [] ∗ six (fun h j => cred (tallyAt (recvCell c h j) () N))
    ∗ six (fun h j => atPos ER (recvCell c h j) 0 ∅ 0)
    ∗ copying m c 0 ∗ copying m c 1 ∗ fetching c 0 (wval m c 0 0 0) ∗ fetching c 1 (wval m c 0 0 1) ∗ ∃ V, outIs c V)
/-- and what they leave. -/
def workPost (c : Dev nD) : sProp 𝕄 :=
  iprop(wAny m c ∗ owing c [] ∗ six (fun h j => atPos ER (recvCell c h j) 1 ∅ 0)
    ∗ (slotAny c 0 0 ∗ slotAny c 0 1) ∗ six (fun h j => slotAny c h.succ j) ∗ bufAny c 0 ∗ bufAny c 1
    ∗ semVal ((c : Thread nD τ), .dma (rS 0 0)) 0 ∗ semVal ((c : Thread nD τ), .dma (rS 0 1)) 0
    ∗ semVal ((c : Thread nD τ), .dma (wS 0)) 0 ∗ semVal ((c : Thread nD τ), .dma (wS 1)) 0 ∗ outIs c (outV m c))

theorem slotIs_any (c : Dev nD) (o : Fin 4) (j : Fin 2) (v : Vec F S1024x512 .f32) : slotIs c o j v ⊢ slotAny c o j := by
  unfold slotIs slotAny
  iintro ⟨%f, -, H⟩
  iexists f; iexact H

set_option maxHeartbeats 1000000 in
theorem st_work {Q : PUnit → sProp 𝕄} {k : PG F} (c : Dev nD) :
    workPre m K c ⊢ iprop((workPost m c -∗ WP c k Q)
      -∗ WP c (blockP0 c <| blockP1 c <| blockP2 c <| blockP3 c <| blockP4 c <| blockP5 c <| blockP6 c <| blockP7 c k) Q) := by
  unfold workPre six
  rw [blockP0_eq, blockP1_eq, blockP2_eq, blockP3_eq, blockP4_eq, blockP5_eq, blockP6_eq, blockP7_eq]
  iintro ⟨#HR, Hw, HO, ⟨Hc10, Hc30, Hc20, Hc11, Hc31, Hc21⟩, ⟨Ha10, Ha30, Ha20, Ha11, Ha31, Ha21⟩, Hcp0, Hcp1, Hf0, Hf1, ⟨%V, Hout⟩⟩ Hk
  iapply (st_copied m c 0 (xl0 c)) $$ [Hcp0 HO]
  · isplitl [Hcp0]; · iexact Hcp0
    iexact HO
  iintro ⟨Hs, Hv0, HO⟩
  iapply (st_firstP m c V) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs00, Hm⟩
  unfold mid
  icases Hm with ⟨Hw, Hf0, Hf1, HO, Hout⟩
  iapply (st_copied m c 1 (xl1 c)) $$ [Hcp1 HO]
  · isplitl [Hcp1]; · iexact Hcp1
    iexact HO
  iintro ⟨Hs, Hv1, HO⟩
  iapply (st_midP m c 0 1 1 0 (sum1 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs01, Hm⟩
  unfold mid
  icases Hm with ⟨Hw, Hf0, Hf1, HO, Hout⟩
  iapply (st_recv m K c 0 0) $$ [Hc10 HO Ha10]
  · isplitr; · iexact HR
    isplitl [Hc10]; · iexact Hc10
    isplitl [HO]; · iexact HO
    iexact Ha10
  iintro ⟨HO, Ha10, Hs⟩
  iapply (st_midP m c 1 0 3 0 (sum2 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs10, Hm⟩
  unfold mid
  icases Hm with ⟨Hw, Hf0, Hf1, HO, Hout⟩
  iapply (st_recv m K c 2 0) $$ [Hc30 HO Ha30]
  · isplitr; · iexact HR
    isplitl [Hc30]; · iexact Hc30
    isplitl [HO]; · iexact HO
    iexact Ha30
  iintro ⟨HO, Ha30, Hs⟩
  iapply (st_midP m c 3 0 1 1 (sum3 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs30, Hm⟩
  unfold mid
  icases Hm with ⟨Hw, Hf0, Hf1, HO, Hout⟩
  iapply (st_recv m K c 0 1) $$ [Hc11 HO Ha11]
  · isplitr; · iexact HR
    isplitl [Hc11]; · iexact Hc11
    isplitl [HO]; · iexact HO
    iexact Ha11
  iintro ⟨HO, Ha11, Hs⟩
  iapply (st_midP m c 1 1 3 1 (sum4 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs11, Hm⟩
  unfold mid
  icases Hm with ⟨Hw, Hf0, Hf1, HO, Hout⟩
  iapply (st_recv m K c 2 1) $$ [Hc31 HO Ha31]
  · isplitr; · iexact HR
    isplitl [Hc31]; · iexact Hc31
    isplitl [HO]; · iexact HO
    iexact Ha31
  iintro ⟨HO, Ha31, Hs⟩
  iapply (st_midP m c 3 1 2 0 (sum5 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs31, Hm⟩
  unfold mid
  icases Hm with ⟨Hw, Hf0, Hf1, HO, Hout⟩
  iapply (st_recv m K c 1 0) $$ [Hc20 HO Ha20]
  · isplitr; · iexact HR
    isplitl [Hc20]; · iexact Hc20
    isplitl [HO]; · iexact HO
    iexact Ha20
  iintro ⟨HO, Ha20, Hs⟩
  iapply (st_midP m c 2 0 2 1 (sum6 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs20, Hm⟩
  unfold mid
  icases Hm with ⟨Hw, Hf0, Hf1, HO, Hout⟩
  iapply (st_recv m K c 1 1) $$ [Hc21 HO Ha21]
  · isplitr; · iexact HR
    isplitl [Hc21]; · iexact Hc21
    isplitl [HO]; · iexact HO
    iexact Ha21
  iintro ⟨HO, Ha21, Hs⟩
  iapply (st_lastP m c 2 1 (sum7 m c)) $$ [Hs Hw Hf0 Hf1 HO Hout]
  · unfold mid
    isplitl [Hs]; · iexact Hs
    isplitl [Hw]; · iexact Hw
    isplitl [Hf0]; · iexact Hf0
    isplitl [Hf1]; · iexact Hf1
    isplitl [HO]; · iexact HO
    iexact Hout
  iintro ⟨Hs21, Hw, Hb0, Hb1, Hu0, Hu1, HO, Hout⟩
  iapply Hk
  unfold workPost six
  isplitl [Hw]; · iexact Hw
  isplitl [HO]; · iexact HO
  isplitl [Ha10 Ha30 Ha20 Ha11 Ha31 Ha21]
  · isplitl [Ha10]; · iexact Ha10
    isplitl [Ha30]; · iexact Ha30
    isplitl [Ha20]; · iexact Ha20
    isplitl [Ha11]; · iexact Ha11
    isplitl [Ha31]; · iexact Ha31
    iexact Ha21
  isplitl [Hs00 Hs01]
  · isplitl [Hs00]; · iapply (slotIs_any c 0 0 _); iexact Hs00
    iapply (slotIs_any c 0 1 _); iexact Hs01
  isplitl [Hs10 Hs30 Hs20 Hs11 Hs31 Hs21]
  · isplitl [Hs10]; · iapply (slotIs_any c 1 0 _); iexact Hs10
    isplitl [Hs30]; · iapply (slotIs_any c 3 0 _); iexact Hs30
    isplitl [Hs20]; · iapply (slotIs_any c 2 0 _); iexact Hs20
    isplitl [Hs11]; · iapply (slotIs_any c 1 1 _); iexact Hs11
    isplitl [Hs31]; · iapply (slotIs_any c 3 1 _); iexact Hs31
    iapply (slotIs_any c 2 1 _); iexact Hs21
  isplitl [Hb0]; · iexact Hb0
  isplitl [Hb1]; · iexact Hb1
  isplitl [Hv0]; · iexact Hv0
  isplitl [Hv1]; · iexact Hv1
  isplitl [Hu0]; · iexact Hu0
  isplitl [Hu1]; · iexact Hu1
  iexact Hout

/-! ## The closing -/

theorem st_close {Q : PUnit → sProp 𝕄} {k : PG F} (c : Dev nD) :
    iprop(records m K ∗ owing c [] ∗ six (fun h j => cred (tallyAt (sendCell c h j) () N)) ∗ six (fun h j => atPos ER (sendCell c h j) 0 ∅ 0))
      ⊢ iprop(((owing c [] ∗ six (fun h j => atPos ER (sendCell c h j) 1 ∅ 0)) -∗ WP c k Q) -∗ WP c (endP c k) Q) := by
  unfold six endP
  iintro ⟨#HR, HO, ⟨Hc10, Hc30, Hc20, Hc11, Hc31, Hc21⟩, ⟨Ha10, Ha30, Ha20, Ha11, Ha31, Ha21⟩⟩ Hk
  iapply (st_sent m K c 0 0 (xs0 c 0) _ (xs0_eq c 0)) $$ [HO Hc10 Ha10]
  · isplitr; · iexact HR
    isplitl [Hc10]; · iexact Hc10
    isplitl [HO]; · iexact HO
    iexact Ha10
  iintro ⟨HO, Ha10⟩
  iapply (st_sent m K c 2 0 (xs0 c 2) _ (xs0_eq c 2)) $$ [HO Hc30 Ha30]
  · isplitr; · iexact HR
    isplitl [Hc30]; · iexact Hc30
    isplitl [HO]; · iexact HO
    iexact Ha30
  iintro ⟨HO, Ha30⟩
  iapply (st_sent m K c 1 0 (xs0 c 1) _ (xs0_eq c 1)) $$ [HO Hc20 Ha20]
  · isplitr; · iexact HR
    isplitl [Hc20]; · iexact Hc20
    isplitl [HO]; · iexact HO
    iexact Ha20
  iintro ⟨HO, Ha20⟩
  iapply (st_sent m K c 0 1 (xs1 c 0) _ (xs1_eq c 0)) $$ [HO Hc11 Ha11]
  · isplitr; · iexact HR
    isplitl [Hc11]; · iexact Hc11
    isplitl [HO]; · iexact HO
    iexact Ha11
  iintro ⟨HO, Ha11⟩
  iapply (st_sent m K c 2 1 (xs1 c 2) _ (xs1_eq c 2)) $$ [HO Hc31 Ha31]
  · isplitr; · iexact HR
    isplitl [Hc31]; · iexact Hc31
    isplitl [HO]; · iexact HO
    iexact Ha31
  iintro ⟨HO, Ha31⟩
  iapply (st_sent m K c 1 1 (xs1 c 1) _ (xs1_eq c 1)) $$ [HO Hc21 Ha21]
  · isplitr; · iexact HR
    isplitl [Hc21]; · iexact Hc21
    isplitl [HO]; · iexact HO
    iexact Ha21
  iintro ⟨HO, Ha21⟩
  iapply Hk
  isplitl [HO]; · iexact HO
  isplitl [Ha10]; · iexact Ha10
  isplitl [Ha30]; · iexact Ha30
  isplitl [Ha20]; · iexact Ha20
  isplitl [Ha11]; · iexact Ha11
  isplitl [Ha31]; · iexact Ha31
  iexact Ha21

/-- A cell whose one round is over gives its counter back at zero. -/
theorem close_cell (p : Dev nD × CK) :
    iprop(records m K ∗ atPos ER (kcell p) 1 ∅ 0) ⊢ (|={Set.univ}=> semVal (kcell p) 0 : sProp 𝕄) := by
  iintro ⟨#HR, Hat⟩
  iapply (Rounds.cell_close ER (Rd m) (Set.mem_univ (K p)) (fun h => h) (R := 0 + 1) (duties_later m (kcell p)))
  isplitr; · iapply (records_inv m K p); iexact HR
  iexact Hat

theorem close_six (c : Dev nD) (b : Bool) :
    iprop(records m K ∗ six (fun h j => atPos ER (kcell (c, some (b, h, j))) 1 ∅ 0))
      ⊢ (|={Set.univ}=> six (fun h j => semVal (kcell (c, some (b, h, j))) 0) : sProp 𝕄) := by
  unfold six
  iintro ⟨#HR, ⟨Ha10, Ha30, Ha20, Ha11, Ha31, Ha21⟩⟩
  imod (close_cell m K (c, some (b, 0, 0))) $$ [Ha10] with H10
  · isplitr; · iexact HR
    iexact Ha10
  imod (close_cell m K (c, some (b, 2, 0))) $$ [Ha30] with H30
  · isplitr; · iexact HR
    iexact Ha30
  imod (close_cell m K (c, some (b, 1, 0))) $$ [Ha20] with H20
  · isplitr; · iexact HR
    iexact Ha20
  imod (close_cell m K (c, some (b, 0, 1))) $$ [Ha11] with H11
  · isplitr; · iexact HR
    iexact Ha11
  imod (close_cell m K (c, some (b, 2, 1))) $$ [Ha31] with H31
  · isplitr; · iexact HR
    iexact Ha31
  imod (close_cell m K (c, some (b, 1, 1))) $$ [Ha21] with H21
  · isplitr; · iexact HR
    iexact Ha21
  imodintro
  isplitl [H10]; · iexact H10
  isplitl [H30]; · iexact H30
  isplitl [H20]; · iexact H20
  isplitl [H11]; · iexact H11
  isplitl [H31]; · iexact H31
  iexact H21

/-! ## The whole -/

/-- What the body uses; -/
def bodyUse (c : Dev nD) : sProp 𝕄 :=
  iprop(openPre m K c ∗ six (fun h j => cred (tallyAt (recvCell c h j) () N)) ∗ six (fun h j => atPos ER (recvCell c h j) 0 ∅ 0)
    ∗ six (fun h j => atPos ER (sendCell c h j) 0 ∅ 0) ∗ ∃ V, outIs c V)
/-- and what it leaves. -/
def bodyLeave (c : Dev nD) : sProp 𝕄 :=
  iprop(xAny m c ∗ wAny m c ∗ owing c [] ∗ semVal (barCell c) 0 ∗ six (fun h j => semVal (sendCell c h j) 0)
    ∗ six (fun h j => semVal (recvCell c h j) 0)
    ∗ (slotAny c 0 0 ∗ slotAny c 0 1) ∗ six (fun h j => slotAny c h.succ j) ∗ bufAny c 0 ∗ bufAny c 1
    ∗ semVal ((c : Thread nD τ), .dma (rS 0 0)) 0 ∗ semVal ((c : Thread nD τ), .dma (rS 0 1)) 0
    ∗ semVal ((c : Thread nD τ), .dma (wS 0)) 0 ∗ semVal ((c : Thread nD τ), .dma (wS 1)) 0 ∗ outIs c (outV m c))

set_option maxHeartbeats 1000000 in
theorem st_body (c : Dev nD) (Q : PUnit → sProp 𝕄) :
    iprop(bodyUse m K c ∗ (bodyLeave m c -∗ Q ⟨⟩)) ⊢ WP c (flat c) Q := by
  unfold bodyUse
  have hrec : openPre m K c ⊢ iprop(records m K ∗ openPre m K c) := by
    unfold openPre
    iintro ⟨#HR, H⟩
    isplitr; · iexact HR
    isplitr; · iexact HR
    iexact H
  iintro ⟨⟨Hop, Hcr, Har, Has, Hout⟩, Hk⟩
  ihave Hop := hrec $$ Hop
  icases Hop with ⟨#HR, Hop⟩
  unfold flat
  iapply (st_open m K c) $$ Hop
  unfold openPost
  iintro ⟨Hx, Hw, HO, Hab, Hcs, Hcp0, Hcp1, Hf0, Hf1⟩
  iapply (st_work m K c) $$ [Hw HO Hcr Har Hcp0 Hcp1 Hf0 Hf1 Hout]
  · unfold workPre
    isplitr; · iexact HR
    isplitl [Hw]; · iexact Hw
    isplitl [HO]; · iexact HO
    isplitl [Hcr]; · iexact Hcr
    isplitl [Har]; · iexact Har
    isplitl [Hcp0]; · iexact Hcp0
    isplitl [Hcp1]; · iexact Hcp1
    isplitl [Hf0]; · iexact Hf0
    isplitl [Hf1]; · iexact Hf1
    iexact Hout
  unfold workPost
  iintro ⟨Hw, HO, Har, Hrest⟩
  iapply (st_close m K c) $$ [HO Hcs Has]
  · isplitr; · iexact HR
    isplitl [HO]; · iexact HO
    isplitl [Hcs]; · iexact Hcs
    iexact Has
  iintro ⟨HO, Has⟩
  imod (close_six m K c true) $$ [Har] with Hzr
  · isplitr; · iexact HR
    iexact Har
  imod (close_six m K c false) $$ [Has] with Hzs
  · isplitr; · iexact HR
    iexact Has
  imod (close_cell m K (c, none)) $$ [Hab] with Hzb
  · isplitr; · iexact HR
    iexact Hab
  rw [wp_ret]; imodintro
  iapply Hk
  unfold bodyLeave
  isplitl [Hx]; · iexact Hx
  isplitl [Hw]; · iexact Hw
  isplitl [HO]; · iexact HO
  isplitl [Hzb]; · iexact Hzb
  isplitl [Hzs]; · iexact Hzs
  isplitl [Hzr]; · iexact Hzr
  iexact Hrest

end Open

end Cert.KernelIdeal.Mesh

end
-- ==== Proof.Split.lean ====
module

public import proofs.«01_k».proof.Proof.Body

/-! # Buffers whole and in parts

The landing buffer is its eight slots, the fetch scratch its two buffers; the result's buffer is determined by its four
column chunks. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The landing buffer -/

theorem slot_set (o : Fin 4) (j : Fin 2) : (slotM o j).view.set = (cRect o j).set := by
  rw [Memref.set_view_squeeze]; exact View.set_slice_whole _ _
theorem buf_set (b : Fin 2) : (bufM b).view.set = (bRect b).set := by
  rw [Memref.set_view_squeeze]; exact View.set_slice_whole _ _

theorem cRect_disj {p p' : Fin 4 × Fin 2} (h : p ≠ p') : Disjoint (cRect p.1 p.2).set (cRect p'.1 p'.2).set := by
  by_cases h1 : p.1 = p'.1
  · have h2 : p.2.val ≠ p'.2.val := fun e => h (Prod.ext h1 (Fin.ext e))
    exact Rect.unit_disjoint 1 (by show p.2.val + 1 ≤ p'.2.val ∨ p'.2.val + 1 ≤ p.2.val; omega)
  · have h2 : p.1.val ≠ p'.1.val := fun e => h1 (Fin.ext e)
    exact Rect.unit_disjoint 0 (by show p.1.val + 1 ≤ p'.1.val ∨ p'.1.val + 1 ≤ p.1.val; omega)
theorem bRect_disj {b b' : Fin 2} (h : b ≠ b') : Disjoint (bRect b).set (bRect b').set := by
  have h2 : b.val ≠ b'.val := fun e => h (Fin.ext e)
  exact Rect.unit_disjoint 0 (by show b.val + 1 ≤ b'.val ∨ b'.val + 1 ≤ b.val; omega)

theorem c_cover (i : S4x2x1024x512.Idx) : i ∈ (cRect (i 0) (i 1)).set := by
  rw [Rect.mem_set_unit]
  intro a
  fin_cases a
  · exact ⟨le_refl _, Nat.lt_succ_self _⟩
  · exact ⟨le_refl _, Nat.lt_succ_self _⟩
  · exact ⟨Nat.zero_le _, by have := (i 2).isLt; show (i 2).val < 0 + 1024; simpa using this⟩
  · exact ⟨Nat.zero_le _, by have := (i 3).isLt; show (i 3).val < 0 + 512; simpa using this⟩
theorem b_cover (i : S2x512x2048.Idx) : i ∈ (bRect (i 0)).set := by
  rw [Rect.mem_set_unit]
  intro a
  fin_cases a
  · exact ⟨le_refl _, Nat.lt_succ_self _⟩
  · exact ⟨Nat.zero_le _, by have := (i 1).isLt; show (i 1).val < 0 + 512; simpa using this⟩
  · exact ⟨Nat.zero_le _, by have := (i 2).isLt; show (i 2).val < 0 + 2048; simpa using this⟩

theorem c_union : (Finset.univ : Finset (Fin 4 × Fin 2)).biUnion (fun p => (slotM p.1 p.2).view.set) = (Finset.univ : Finset S4x2x1024x512.Idx) := by
  ext i
  simp only [Finset.mem_biUnion, Finset.mem_univ, true_and, iff_true]
  exact ⟨(i 0, i 1), (slot_set (i 0) (i 1)).ge (c_cover i)⟩
theorem b_union : (Finset.univ : Finset (Fin 2)).biUnion (fun b => (bufM b).view.set) = (Finset.univ : Finset S2x512x2048.Idx) := by
  ext i
  simp only [Finset.mem_biUnion, Finset.mem_univ, true_and, iff_true]
  exact ⟨i 0, (buf_set (i 0)).ge (b_cover i)⟩

/-- Eight assertions, one for each slot; two, one for each fetch buffer. -/
theorem bigSep_slots (Φ : Fin 4 × Fin 2 → sProp 𝕄) : bigSep Finset.univ Φ
    = iprop(Φ (0, 0) ∗ Φ (0, 1) ∗ Φ (1, 0) ∗ Φ (3, 0) ∗ Φ (2, 0) ∗ Φ (1, 1) ∗ Φ (3, 1) ∗ Φ (2, 1)) :=
  bigSep_univ_eq_bigSepL [(0, 0), (0, 1), (1, 0), (3, 0), (2, 0), (1, 1), (3, 1), (2, 1)] (by decide) (by decide) Φ
theorem bigSep_bufs (Φ : Fin 2 → sProp 𝕄) : bigSep Finset.univ Φ = iprop(Φ 0 ∗ Φ 1) :=
  bigSep_univ_eq_bigSepL [0, 1] (by decide) (by decide) Φ

theorem slots_split (c : Dev nD) (f : Buf (Elt F) ((c : Thread nD τ).loc cc0_scratch0)) :
    ((c : Thread nD τ).loc cc0_scratch0 ↦{fullShare} f : sProp 𝕄)
      ⊢ iprop((slotAny c 0 0 ∗ slotAny c 0 1) ∗ six (fun h j => slotAny c h.succ j)) := by
  have h := pointsTo_biUnion (Ix := Unit) (Name := ℕ) (U := UU) (Lvl := ℕ) (ℓ := (c : Thread nD τ).loc cc0_scratch0) (q := fullShare) (f := f)
    (Finset.univ : Finset (Fin 4 × Fin 2)) (fun p => (slotM p.1 p.2).view.set)
    (fun p _ p' _ hp => by rw [slot_set, slot_set]; exact cRect_disj hp)
  rw [c_union, bigSep_slots] at h
  refine (Entails.of_eq h).trans ?_
  unfold six slotAny slotPts
  iintro ⟨H00, H01, H10, H30, H20, H11, H31, H21⟩
  isplitl [H00 H01]
  · isplitl [H00]; · iexists f; iexact H00
    iexists f; iexact H01
  isplitl [H10]; · iexists f; iexact H10
  isplitl [H30]; · iexists f; iexact H30
  isplitl [H20]; · iexists f; iexact H20
  isplitl [H11]; · iexists f; iexact H11
  isplitl [H31]; · iexists f; iexact H31
  iexists f; iexact H21

theorem slots_glue (c : Dev nD) (fs : Fin 4 × Fin 2 → Buf (Elt F) ((c : Thread nD τ).loc cc0_scratch0)) :
    iprop(slotPts c 0 0 (fs (0, 0)) ∗ slotPts c 0 1 (fs (0, 1)) ∗ slotPts c 1 0 (fs (1, 0)) ∗ slotPts c 3 0 (fs (3, 0)) ∗ slotPts c 2 0 (fs (2, 0))
        ∗ slotPts c 1 1 (fs (1, 1)) ∗ slotPts c 3 1 (fs (3, 1)) ∗ slotPts c 2 1 (fs (2, 1)))
      ⊢ (iprop(∃ f : Buf (Elt F) ((c : Thread nD τ).loc cc0_scratch0), (c : Thread nD τ).loc cc0_scratch0 ↦{fullShare} f) : sProp 𝕄) := by
  have h := pointsTo_biUnion_join (Ix := Unit) (Name := ℕ) (U := UU) (Lvl := ℕ) (ℓ := (c : Thread nD τ).loc cc0_scratch0) (q := fullShare)
      (Finset.univ : Finset (Fin 4 × Fin 2)) (fun p => (slotM p.1 p.2).view.set) fs (fs (0, 0))
      (fun p _ p' _ hp => by rw [slot_set, slot_set]; exact cRect_disj hp)
  rw [c_union, bigSep_slots] at h
  refine (show _ ⊢ _ from h).trans ?_
  iintro ⟨%g, -, H⟩
  iexists g; iexact H

/-- A family of eight. -/
def pick {α : Type} (a b c d e f g h : α) (p : Fin 4 × Fin 2) : α := ![![a, b], ![c, d], ![e, f], ![g, h]] p.1 p.2

theorem slots_join (c : Dev nD) :
    iprop((slotAny c 0 0 ∗ slotAny c 0 1) ∗ six (fun h j => slotAny c h.succ j))
      ⊢ (iprop(∃ f : Buf (Elt F) ((c : Thread nD τ).loc cc0_scratch0), (c : Thread nD τ).loc cc0_scratch0 ↦{fullShare} f) : sProp 𝕄) := by
  unfold six slotAny
  iintro ⟨⟨⟨%f00, H00⟩, ⟨%f01, H01⟩⟩, ⟨%f10, H10⟩, ⟨%f30, H30⟩, ⟨%f20, H20⟩, ⟨%f11, H11⟩, ⟨%f31, H31⟩, ⟨%f21, H21⟩⟩
  have h := slots_glue c (pick f00 f01 f10 f11 f20 f21 f30 f31)
  rw [show pick f00 f01 f10 f11 f20 f21 f30 f31 (0, 0) = f00 from rfl, show pick f00 f01 f10 f11 f20 f21 f30 f31 (0, 1) = f01 from rfl,
    show pick f00 f01 f10 f11 f20 f21 f30 f31 (1, 0) = f10 from rfl, show pick f00 f01 f10 f11 f20 f21 f30 f31 (1, 1) = f11 from rfl,
    show pick f00 f01 f10 f11 f20 f21 f30 f31 (2, 0) = f20 from rfl, show pick f00 f01 f10 f11 f20 f21 f30 f31 (2, 1) = f21 from rfl,
    show pick f00 f01 f10 f11 f20 f21 f30 f31 (3, 0) = f30 from rfl, show pick f00 f01 f10 f11 f20 f21 f30 f31 (3, 1) = f31 from rfl] at h
  iapply h
  isplitl [H00]; · iexact H00
  isplitl [H01]; · iexact H01
  isplitl [H10]; · iexact H10
  isplitl [H30]; · iexact H30
  isplitl [H20]; · iexact H20
  isplitl [H11]; · iexact H11
  isplitl [H31]; · iexact H31
  iexact H21

theorem bufs_split (c : Dev nD) (f : Buf (Elt F) ((c : Thread nD τ).loc cc0_scratch1)) :
    ((c : Thread nD τ).loc cc0_scratch1 ↦{fullShare} f : sProp 𝕄) ⊢ iprop(bufAny c 0 ∗ bufAny c 1) := by
  have h := pointsTo_biUnion (Ix := Unit) (Name := ℕ) (U := UU) (Lvl := ℕ) (ℓ := (c : Thread nD τ).loc cc0_scratch1) (q := fullShare) (f := f)
    (Finset.univ : Finset (Fin 2)) (fun b => (bufM b).view.set)
    (fun b _ b' _ hb => by rw [buf_set, buf_set]; exact bRect_disj hb)
  rw [b_union, bigSep_bufs] at h
  refine (Entails.of_eq h).trans ?_
  unfold bufAny bufPts
  iintro ⟨H0, H1⟩
  isplitl [H0]; · iexists f; iexact H0
  iexists f; iexact H1

theorem bufs_glue (c : Dev nD) (fs : Fin 2 → Buf (Elt F) ((c : Thread nD τ).loc cc0_scratch1)) :
    iprop(bufPts c 0 (fs 0) ∗ bufPts c 1 (fs 1))
      ⊢ (iprop(∃ f : Buf (Elt F) ((c : Thread nD τ).loc cc0_scratch1), (c : Thread nD τ).loc cc0_scratch1 ↦{fullShare} f) : sProp 𝕄) := by
  have h := pointsTo_biUnion_join (Ix := Unit) (Name := ℕ) (U := UU) (Lvl := ℕ) (ℓ := (c : Thread nD τ).loc cc0_scratch1) (q := fullShare)
      (Finset.univ : Finset (Fin 2)) (fun b => (bufM b).view.set) fs (fs 0)
      (fun b _ b' _ hb => by rw [buf_set, buf_set]; exact bRect_disj hb)
  rw [b_union, bigSep_bufs] at h
  refine (show _ ⊢ _ from h).trans ?_
  iintro ⟨%g, -, H⟩
  iexists g; iexact H

theorem bufs_join (c : Dev nD) :
    iprop(bufAny c 0 ∗ bufAny c 1)
      ⊢ (iprop(∃ f : Buf (Elt F) ((c : Thread nD τ).loc cc0_scratch1), (c : Thread nD τ).loc cc0_scratch1 ↦{fullShare} f) : sProp 𝕄) := by
  unfold bufAny
  iintro ⟨⟨%f0, H0⟩, ⟨%f1, H1⟩⟩
  have h := bufs_glue c ![f0, f1]
  rw [show (![f0, f1] : Fin 2 → _) 0 = f0 from rfl, show (![f0, f1] : Fin 2 → _) 1 = f1 from rfl] at h
  iapply h
  isplitl [H0]; · iexact H0
  iexact H1

/-! ## The result's buffer -/

/-- Column `i 1` as a chunk and a column of the chunk. -/
def chunkOf (i : S1024x8192.Idx) : Fin 4 := ⟨(i 1).val / 2048, by have h : (i 1).val < 8192 := (i 1).isLt; omega⟩
def inChunk (i : S1024x8192.Idx) : S1024x2048.Idx := fun a => match a with
  | ⟨0, _⟩ => i 0
  | ⟨1, _⟩ => ⟨(i 1).val % 2048, Nat.mod_lt _ (by decide)⟩

/-- The contents of four chunks. -/
def outOf (V : Fin 4 → Vec F S1024x2048 .f32) : (cc0_stg0_0 : Ref sig .tc).ty.Contents (Elt F) := fun i => V (chunkOf i) (inChunk i)

theorem emb_inChunk (i : S1024x8192.Idx) : (oRect (chunkOf i)).emb (inChunk i) = i := by
  funext a
  refine Fin.ext ?_
  fin_cases a
  · show 0 + 1 * (i 0).val = (i 0).val; omega
  · show 2048 * ((i 1).val / 2048) + 1 * ((i 1).val % 2048) = (i 1).val; omega

theorem out_eq (f : (cc0_stg0_0 : Ref sig .tc).ty.Contents (Elt F)) (V : Fin 4 → Vec F S1024x2048 .f32)
    (h : ∀ q, (oM.access (oRect q)).read (Elt F) f = V q) : f = outOf V := by
  funext i
  unfold outOf
  rw [← h]
  exact congrArg f (emb_inChunk i).symm

theorem out_open (c : Dev nD) (f : Buf (Elt F) ((c : Thread nD τ).loc cc0_stg0_0)) :
    ((c : Thread nD τ).loc cc0_stg0_0 ↦{fullShare} f : sProp 𝕄) ⊢ iprop(∃ V, outIs c V) := by
  unfold outIs
  iintro H
  iexists (fun q => (oM.access (oRect q)).read (Elt F) f)
  iexists f
  isplitr; · (ipureintro; exact fun _ => rfl)
  iexact H

theorem out_close (c : Dev nD) (V : Fin 4 → Vec F S1024x2048 .f32) :
    outIs c V ⊢ ((c : Thread nD τ).loc cc0_stg0_0 ↦{fullShare} outOf V : sProp 𝕄) := by
  unfold outIs
  iintro ⟨%f, %hf, H⟩
  rw [← out_eq f V hf]
  iexact H

end Cert.KernelIdeal.Mesh

end
-- ==== Proof.Fund.lean ====
module

public import proofs.«01_k».proof.Proof.Split
public import Idealize.ShloMosaic.Lib.Pipeline.Launch
public import Idealize.ShloMosaic.Lib.Pipeline.Kit
public import Idealize.ShloMosaic.Lib.Tactic

/-! # What the launch deals out

The rounds of every device's thirteen cells, their duty tokens handed to the devices that pay them, the credits that meet
what is owed, and the semaphores that stay outside the protocol. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- All cells. -/
def cells : Finset (GSem nD τ sig) := Finset.univ.map ⟨kcell, kcell_inj⟩

/-- A device's own tokens: its barrier's three, one for each copy. -/
abbrev TK : Type := Fin 3 ⊕ (Bool × Fin 3 × Fin 2)
abbrev tokOf : Dev nD × TK → GSem nD τ sig × ℕ × Fin 4
  | (c, .inl o) => (barCell c, 0, o.succ)
  | (c, .inr k) => (kcell (c, some k), 0, 0)
theorem tokOf_inj : Function.Injective tokOf := by
  rintro ⟨c, a | a⟩ ⟨c', b | b⟩ h
  · have h1 := kcell_inj (congrArg Prod.fst h)
    have h2 : a.succ = b.succ := congrArg (fun x : GSem nD τ sig × ℕ × Fin 4 => x.2.2) h
    obtain rfl : c = c' := congrArg Prod.fst h1
    rw [Fin.succ_injective _ h2]
  · exact absurd (congrArg Prod.snd (kcell_inj (congrArg Prod.fst h))) (by simp)
  · exact absurd (congrArg Prod.snd (kcell_inj (congrArg Prod.fst h))) (by simp)
  · have h1 := kcell_inj (congrArg Prod.fst h)
    obtain rfl : c = c' := congrArg Prod.fst h1
    rw [Option.some_injective _ (congrArg Prod.snd h1)]
def allToks : Finset (GSem nD τ sig × ℕ × Fin 4) := Finset.univ.map ⟨tokOf, tokOf_inj⟩

theorem bigSep_tk (Φ : TK → sProp 𝕄) : bigSep Finset.univ Φ
    = iprop(Φ (.inl 2) ∗ Φ (.inl 1) ∗ Φ (.inl 0) ∗ Φ (.inr (false, 0, 0)) ∗ Φ (.inr (false, 2, 0)) ∗ Φ (.inr (false, 1, 0)) ∗ Φ (.inr (false, 0, 1)) ∗ Φ (.inr (false, 2, 1)) ∗ Φ (.inr (false, 1, 1)) ∗ Φ (.inr (true, 0, 0)) ∗ Φ (.inr (true, 2, 0)) ∗ Φ (.inr (true, 1, 0)) ∗ Φ (.inr (true, 0, 1)) ∗ Φ (.inr (true, 2, 1)) ∗ Φ (.inr (true, 1, 1))) :=
  bigSep_univ_eq_bigSepL ([.inl 2, .inl 1, .inl 0, .inr (false, 0, 0), .inr (false, 2, 0), .inr (false, 1, 0), .inr (false, 0, 1), .inr (false, 2, 1), .inr (false, 1, 1), .inr (true, 0, 0), .inr (true, 2, 0), .inr (true, 1, 0), .inr (true, 0, 1), .inr (true, 2, 1), .inr (true, 1, 1)] : List TK) (by decide) (by decide) Φ
theorem bigSep_ck (Φ : CK → sProp 𝕄) : bigSep Finset.univ Φ
    = iprop(Φ none ∗ Φ (some (false, 0, 0)) ∗ Φ (some (false, 2, 0)) ∗ Φ (some (false, 1, 0)) ∗ Φ (some (false, 0, 1)) ∗ Φ (some (false, 2, 1)) ∗ Φ (some (false, 1, 1)) ∗ Φ (some (true, 0, 0)) ∗ Φ (some (true, 2, 0)) ∗ Φ (some (true, 1, 0)) ∗ Φ (some (true, 0, 1)) ∗ Φ (some (true, 2, 1)) ∗ Φ (some (true, 1, 1))) :=
  bigSep_univ_eq_bigSepL [none, some (false, 0, 0), some (false, 2, 0), some (false, 1, 0), some (false, 0, 1), some (false, 2, 1), some (false, 1, 1), some (true, 0, 0), some (true, 2, 0), some (true, 1, 0), some (true, 0, 1), some (true, 2, 1), some (true, 1, 1)] (by decide) (by decide) Φ

/-- The tokens of a device's own cells, as minted; -/
def toks (c : Dev nD) : sProp 𝕄 :=
  iprop((dutyTok ER (barCell c) 0 3 ∗ dutyTok ER (barCell c) 0 2 ∗ dutyTok ER (barCell c) 0 1)
    ∗ six (fun h j => dutyTok ER (sendCell c h j) 0 0) ∗ six (fun h j => dutyTok ER (recvCell c h j) 0 0))
/-- the tokens of the duties a device pays. -/
def payToks (c : Dev nD) : sProp 𝕄 :=
  iprop((dutyTok ER (barCell (pe c 1)) 0 3 ∗ dutyTok ER (barCell (pe c 2)) 0 2 ∗ dutyTok ER (barCell (pe c 3)) 0 1)
    ∗ six (fun h j => dutyTok ER (sendCell c h j) 0 0) ∗ six (fun h j => dutyTok ER (recvCell (pe c h.succ) h j) 0 0))

theorem toks_intro (c : Dev nD) : (bigSep Finset.univ fun t : TK => dutyTok ER (tokOf (c, t)).1 (tokOf (c, t)).2.1 (tokOf (c, t)).2.2 : sProp 𝕄) ⊢ toks c := by
  rw [bigSep_tk]; unfold toks six
  iintro ⟨B3, B2, B1, S00, S20, S10, S01, S21, S11, R00, R20, R10, R01, R21, R11⟩
  isplitl [B3 B2 B1]
  · isplitl [B3]; · iexact B3
    isplitl [B2]; · iexact B2
    iexact B1
  isplitl [S00 S20 S10 S01 S21 S11]
  · isplitl [S00]; · iexact S00
    isplitl [S20]; · iexact S20
    isplitl [S10]; · iexact S10
    isplitl [S01]; · iexact S01
    isplitl [S21]; · iexact S21
    iexact S11
  isplitl [R00]; · iexact R00
  isplitl [R20]; · iexact R20
  isplitl [R10]; · iexact R10
  isplitl [R01]; · iexact R01
  isplitl [R21]; · iexact R21
  iexact R11

/-- Assertions about every device, read at the device `o` further. -/
theorem around (o : Fin 4) (Φ : Dev nD → sProp 𝕄) : bigSep Finset.univ Φ ⊢ bigSep Finset.univ fun c => Φ (pe c o) :=
  Entails.of_eq (bigSep_univ_equiv (shift o) Φ)

theorem six_around (P : Dev nD → Fin 3 → Fin 2 → sProp 𝕄) :
    (bigSep Finset.univ fun c => six (P c)) ⊢ bigSep Finset.univ fun c => six fun h j => P (pe c h.succ) h j := by
  unfold six
  simp only [bigSep_sep']
  iintro ⟨R00, R20, R10, R01, R21, R11⟩
  isplitl [R00]; · iapply (around (Fin.succ 0) fun c => P c 0 0); iexact R00
  isplitl [R20]; · iapply (around (Fin.succ 2) fun c => P c 2 0); iexact R20
  isplitl [R10]; · iapply (around (Fin.succ 1) fun c => P c 1 0); iexact R10
  isplitl [R01]; · iapply (around (Fin.succ 0) fun c => P c 0 1); iexact R01
  isplitl [R21]; · iapply (around (Fin.succ 2) fun c => P c 2 1); iexact R21
  iapply (around (Fin.succ 1) fun c => P c 1 1); iexact R11

/-- The tokens dealt to those that pay. -/
theorem toks_around : (bigSep Finset.univ fun c : Dev nD => (toks c : sProp 𝕄)) ⊢ bigSep Finset.univ fun c : Dev nD => payToks c := by
  unfold toks payToks
  simp only [bigSep_sep']
  iintro ⟨⟨B3, B2, B1⟩, HS, HR⟩
  isplitl [B3 B2 B1]
  · isplitl [B3]; · iapply (around 1 fun c => dutyTok ER (barCell c) 0 3); iexact B3
    isplitl [B2]; · iapply (around 2 fun c => dutyTok ER (barCell c) 0 2); iexact B2
    iapply (around 3 fun c => dutyTok ER (barCell c) 0 1); iexact B1
  isplitl [HS]; · iexact HS
  iapply (six_around fun c h j => dutyTok ER (recvCell c h j) 0 0); iexact HR

/-! ## The semaphores -/

/-- The kernel's own semaphores. -/
abbrev osem : Fin 18 → SemLoc sig := fun k => .dma k.succ

/-- Those outside the protocol, at zero. -/
def extra (c : Dev nD) : sProp 𝕄 :=
  iprop(semVal ((c : Thread nD τ), .dma (rS 0 0)) 0 ∗ semVal ((c : Thread nD τ), .dma (rS 0 1)) 0 ∗ semVal ((c : Thread nD τ), .dma (wS 0)) 0 ∗ semVal ((c : Thread nD τ), .dma (wS 1)) 0 ∗ semVal ((c : Thread nD τ), .dma (sS 0 0)) 0 ∗ semVal ((c : Thread nD τ), .dma (sS 0 1)) 0)

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (rS 0 0)) 0 ∗ semVal ((c : Thread nD τ), .dma (rS 0 1)) 0 ∗ semVal ((c : Thread nD τ), .dma (wS 0)) 0 ∗ semVal ((c : Thread nD τ), .dma (wS 1)) 0 ∗ semVal ((c : Thread nD τ), .dma (sS 0 0)) 0 ∗ semVal ((c : Thread nD τ), .dma (sS 0 1)) 0 ∗ semVal (sendCell c 0 0) 0 ∗ semVal (sendCell c 2 0) 0 ∗ semVal (sendCell c 1 0) 0 ∗ semVal (sendCell c 0 1) 0 ∗ semVal (sendCell c 2 1) 0 ∗ semVal (sendCell c 1 1) 0 ∗ semVal (recvCell c 0 0) 0 ∗ semVal (recvCell c 2 0) 0 ∗ semVal (recvCell c 1 0) 0 ∗ semVal (recvCell c 0 1) 0 ∗ semVal (recvCell c 2 1) 0 ∗ semVal (recvCell c 1 1) 0) := by
  rw [Pipeline.ownSems0_eq_of_list c osem [8, 9, 16, 17, 0, 1, 2, 6, 4, 3, 7, 5, 10, 14, 12, 11, 15, 13] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_open (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ extra c) : sProp 𝕄) := by
  rw [ownSems0_eq, unscopedSems0_eq, bigSep_ck]; unfold extra
  iintro ⟨⟨E1, E2, E3, E4, E5, E6, S00, S20, S10, S01, S21, S11, R00, R20, R10, R01, R21, R11⟩, B⟩
  isplitl [B S00 S20 S10 S01 S21 S11 R00 R20 R10 R01 R21 R11]
  · isplitl [B]; · iexact B
    isplitl [S00]; · iexact S00
    isplitl [S20]; · iexact S20
    isplitl [S10]; · iexact S10
    isplitl [S01]; · iexact S01
    isplitl [S21]; · iexact S21
    isplitl [S11]; · iexact S11
    isplitl [R00]; · iexact R00
    isplitl [R20]; · iexact R20
    isplitl [R10]; · iexact R10
    isplitl [R01]; · iexact R01
    isplitl [R21]; · iexact R21
    iexact R11
  isplitl [E1]; · iexact E1
  isplitl [E2]; · iexact E2
  isplitl [E3]; · iexact E3
  isplitl [E4]; · iexact E4
  isplitl [E5]; · iexact E5
  iexact E6
theorem sems_close (c : Dev nD) :
    iprop(six (fun h j => semVal (sendCell c h j) 0) ∗ six (fun h j => semVal (recvCell c h j) 0) ∗ extra c)
      ⊢ (Pipeline.ownSems0 (Ix := Unit) (Name := ℕ) (U := UU) (Lvl := ℕ) (Val := Elt F) (τ := τ) osem c : sProp 𝕄) := by
  rw [ownSems0_eq]; unfold extra six
  iintro ⟨⟨S00, S20, S10, S01, S21, S11⟩, ⟨R00, R20, R10, R01, R21, R11⟩, E1, E2, E3, E4, E5, E6⟩
  isplitl [E1]; · iexact E1
  isplitl [E2]; · iexact E2
  isplitl [E3]; · iexact E3
  isplitl [E4]; · iexact E4
  isplitl [E5]; · iexact E5
  isplitl [E6]; · iexact E6
  isplitl [S00]; · iexact S00
  isplitl [S20]; · iexact S20
  isplitl [S10]; · iexact S10
  isplitl [S01]; · iexact S01
  isplitl [S21]; · iexact S21
  isplitl [S11]; · iexact S11
  isplitl [R00]; · iexact R00
  isplitl [R20]; · iexact R20
  isplitl [R10]; · iexact R10
  isplitl [R01]; · iexact R01
  isplitl [R21]; · iexact R21
  iexact R11

/-! ## The ghost state dealt -/

def u₀ : UU :=
  (initOf (Pipeline.cells cfgs cellOf_inj) (Pipeline.launchToks cfgs cellOf_inj), (initOf cells allToks, 1))

/-- What the launch element deals device `c`; -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
/-- what stays with it: its positions, the tokens it pays with, its other semaphores; -/
def linear (c : Dev nD) : sProp 𝕄 :=
  iprop((bigSep Finset.univ fun k : CK => atPos ER (kcell (c, k)) 0 ∅ 0) ∗ payToks c ∗ extra c)
/-- what it starts from. -/
def G' (c : Dev nD) : sProp 𝕄 := iprop(∃ K, records m K ∗ linear c)

theorem fund_cells : BI.own (ER (initOf cells allToks)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_intro c
  iintro HX
  imod (Rounds.fund ER (Rd m) cells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat']; · iexact Hat'
    iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ extra c) := by
  unfold G
  iintro ⟨Hos, Hus, Hst, Hat, Htok⟩
  ihave Hv := (sems_open (F := F) c) $$ [Hos Hus]
  · isplitl [Hos]; · iexact Hos
    iexact Hus
  icases Hv with ⟨Hv, Hex⟩
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hex

/-- A persistent assertion is at hand for every member. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_join : iprop((bigSep Finset.univ fun c : Dev nD => bigSep Finset.univ fun k : CK => atPos ER (kcell (c, k)) 0 ∅ 0)
      ∗ (bigSep Finset.univ fun c : Dev nD => payToks c) ∗ bigSep Finset.univ fun c : Dev nD => extra c)
    ⊢ (bigSep Finset.univ fun c : Dev nD => linear c : sProp 𝕄) := by
  unfold linear; rw [bigSep_sep', bigSep_sep']

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c ∗ extra c) : sProp 𝕄)
      ⊢ bigSep Finset.univ (G' m) := by
  rw [bigSep_sep', bigSep_sep', bigSep_sep', ← bigSep_univ_prod (fun p : Dev nD × CK => iprop(∃ κ : ℕ, cellInv ER (Rd m) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄))]
  iintro ⟨HI, ⟨Hat, #HR⟩, Htok, Hex⟩
  ihave HK := (BI.bigSep_exists_pi Finset.univ (fun (p : Dev nD × CK) (κ : ℕ) => (cellInv ER (Rd m) κ (kcell p) : sProp 𝕄))) $$ HI
  icases HK with ⟨%K, #HI⟩
  ihave Htk := (toks_around (F := F)) $$ Htok
  iapply (spread (R := records m K) (Φ := fun c => linear c) fun c _ => show iprop(records m K ∗ linear c) ⊢ G' m c from by
    unfold G'; iintro H; iexists K; iexact H)
  isplitr
  · unfold records; isplitl; · iexact HI
    iexact HR
  · iapply (linear_join (F := F))
    isplitl [Hat]; · iexact Hat
    isplitl [Htk]; · iexact Htk
    iexact Hex

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem owe_apply (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, tallyAt_apply, ih, List.map_cons, List.sum_cons, Nat.add_comm]
    simp

theorem pe_eq_iff (c d : Dev nD) (o : Fin 4) : (c = pe d o) = (d = pm c o) :=
  propext ⟨fun h => by rw [h, pm_pe], fun h => by rw [h, pe_pm]⟩

theorem sum_pe (c : Dev nD) (o : Fin 4) (n : ℕ) : (∑ d : Dev nD, if c = pe d o then n else 0) = n := by
  simp only [pe_eq_iff]; rw [Finset.sum_ite_eq' Finset.univ (pm c o) fun _ => n, if_pos (Finset.mem_univ _)]

theorem cell_eq_iff (a b : Dev nD) (x y : CK) : (kcell (a, x) = kcell (b, y)) = (a = b ∧ x = y) := by
  rw [kcell_inj.eq_iff, Prod.mk.injEq]

theorem owed_bar (d c : Dev nD) : O₀ d (barCell c) () = (if c = pe d 1 then 1 else 0) + ((if c = pe d 2 then 1 else 0) + (if c = pe d 3 then 1 else 0)) := by
  unfold O₀
  rw [owe_apply]
  simp only [owedAll, owedSends, List.map_cons, List.map_nil, List.sum_cons, List.sum_nil, cell_eq_iff, reduceCtorEq, and_true, and_false, if_false, Nat.add_zero]
theorem owed_recv (d c : Dev nD) (h : Fin 3) (j : Fin 2) : O₀ d (recvCell c h j) () = if c = pe d h.succ then N else 0 := by
  unfold O₀
  rw [owe_apply]
  simp only [owedAll, owedSends, List.map_cons, List.map_nil, List.sum_cons, List.sum_nil, cell_eq_iff, reduceCtorEq, and_false, if_false, Nat.add_zero, Nat.zero_add]
  simp only [Option.some.injEq, Prod.mk.injEq, true_and, Bool.false_eq_true, false_and, and_false, if_false, Nat.add_zero, Nat.zero_add]
  fin_cases h <;> fin_cases j <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_pe, sum_pe, sum_pe]
  rfl
theorem launch_recv (c : Dev nD) (h : Fin 3) (j : Fin 2) :
    tallyOn (recvCell c h j) (launchCredit (Pipeline.owing O₀) 0 (recvCell c h j)) = (tallyAt (recvCell c h j) () N : CellTallies nD τ sig Unit) := by
  unfold tallyAt; refine congrArg _ (Finsupp.ext fun u => ?_); cases u
  rw [Pipeline.launchCredit_owing, Finsupp.single_eq_same, Finset.sum_congr rfl fun d _ => owed_recv d c h j, sum_pe]

theorem creds (c : Dev nD) :
    (Pipeline.launchCred O₀ c : sProp 𝕄) ⊢ iprop(cred (tallyAt (barCell c) () 3) ∗ six fun h j => cred (tallyAt (recvCell c h j) () N)) := by
  unfold Pipeline.launchCred
  refine (bigSep_subset (Finset.subset_univ (([none] ++ [some (true, 0, 0), some (true, 2, 0), some (true, 1, 0), some (true, 0, 1), some (true, 2, 1), some (true, 1, 1)] : List CK).map csem).toFinset)).trans ?_
  rw [bigSep_eq_bigSepL_of_eq (([none] ++ [some (true, 0, 0), some (true, 2, 0), some (true, 1, 0), some (true, 0, 1), some (true, 2, 1), some (true, 1, 1)] : List CK).map csem) rfl ((List.nodup_map_iff csem_inj).mpr (by decide))]
  unfold six
  beta_reduce
  rw [← launch_bar, ← launch_recv c 0 0, ← launch_recv c 2 0, ← launch_recv c 1 0, ← launch_recv c 0 1, ← launch_recv c 2 1, ← launch_recv c 1 1]
  exact BI.Entails.refl (M := 𝕄) _

end Cert.KernelIdeal.Mesh

end
-- ==== Proof.Launch.lean ====
module

public import proofs.«01_k».proof.Proof.Fund
public import proofs.«01_k».proof.Proof.Gen.KernelIdeal.Launch
public import proofs.«01_k».proof.Proof.Gen.KernelIdeal.Points
public import Idealize.ShloMosaic.Lib.Pipeline.Value
public import Idealize.ShloMosaic.Lib.Pipeline.CollectiveSegs

/-! # The run

The body's specification put into the launch theorem: what every execution ends in, on every device. -/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's memory at the launch. -/
abbrev s₀ : MemSt nD τ sig (Elt F) := ⟨m, fun _ => 0, ρ⟩

/-! ## Around the body -/

/-- What a device's body starts from; -/
def start (c : Dev nD) : sProp 𝕄 :=
  iprop((∃ K, records m K ∗ linear c) ∗ (cred (tallyAt (barCell c) () 3) ∗ six fun h j => cred (tallyAt (recvCell c h j) () N))
    ∗ levAts L lv ∗ xAny m c ∗ wAny m c)
def Φ₀ (c : Dev nD) : sProp 𝕄 :=
  iprop(start m c ∗ (∃ f, ((c : Thread nD τ).loc cc0_scratch0) ↦{fullShare} f) ∗ ∃ f, ((c : Thread nD τ).loc cc0_scratch1) ↦{fullShare} f)
/-- what it ends with. -/
def Φ₁ (c : Dev nD) : sProp 𝕄 :=
  iprop(semVal (barCell c) 0 ∗ (six (fun h j => semVal (sendCell c h j) 0) ∗ six (fun h j => semVal (recvCell c h j) 0) ∗ extra c)
    ∗ ((slotAny c 0 0 ∗ slotAny c 0 1) ∗ six fun h j => slotAny c h.succ j) ∗ bufAny c 0 ∗ bufAny c 1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outOf (outV m c)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ c ∗ (dats m ρ 0 c).owesAt () t0_0.succ ∗ stg c cc0_stg0_0 (outOf (outV m c)))

theorem owing_open (c : Dev nD) : (dats m ρ 0 c).owesAt () t0_0.castSucc ⊢ (owing c (owedAll c) : sProp 𝕄) := by
  show iprop(∃ W, ⌜↑W ⊆ (dats m ρ 0 c).bound () t0_0.castSucc⌝ ∗ owes (c : Thread nD τ) (O₀ c) W) ⊢ _
  unfold owing O₀
  iintro ⟨%W, -, H⟩
  iexists W; iexact H

/-- A body's start spread out as its specification asks. -/
theorem use_intro (c : Dev nD) (f0 : Buf (Elt F) ((c : Thread nD τ).loc cc0_scratch0)) (f1 : Buf (Elt F) ((c : Thread nD τ).loc cc0_scratch1))
    (fo : Buf (Elt F) ((c : Thread nD τ).loc cc0_stg0_0)) (K : Dev nD × CK → ℕ) :
    iprop(records m K ∗ linear c ∗ (cred (tallyAt (barCell c) () 3) ∗ six fun h j => cred (tallyAt (recvCell c h j) () N))
        ∗ levAts L lv ∗ xAny m c ∗ wAny m c ∗ (((c : Thread nD τ).loc cc0_scratch0) ↦{fullShare} f0) ∗ (((c : Thread nD τ).loc cc0_scratch1) ↦{fullShare} f1)
        ∗ owing c (owedAll c) ∗ (((c : Thread nD τ).loc cc0_stg0_0) ↦{fullShare} fo))
      ⊢ iprop(bodyUse m K c ∗ semVal ((c : Thread nD τ), .dma (sS 0 0)) 0 ∗ semVal ((c : Thread nD τ), .dma (sS 0 1)) 0) := by
  unfold linear payToks extra
  rw [bigSep_ck]
  iintro ⟨#HR, ⟨⟨AB, KS00, KS20, KS10, KS01, KS21, KS11, KR00, KR20, KR10, KR01, KR21, KR11⟩, ⟨TB, TS, TR⟩, E1, E2, E3, E4, E5, E6⟩, ⟨CB, CR⟩, HL, Hx, Hw, H0, H1, HO, Hv⟩
  ihave H0 := (slots_split c f0) $$ H0
  ihave H1 := (bufs_split c f1) $$ H1
  ihave Hv := (out_open c fo) $$ Hv
  icases H0 with ⟨⟨S0, S1⟩, SS⟩
  icases H1 with ⟨B0, B1⟩
  unfold bodyUse openPre
  isplitr [E5 E6]
  · isplitl [HL HO TB TS TR SS CB AB Hx Hw S0 S1 B0 B1 E1 E2 E3 E4]
    · isplitr; · iexact HR
      isplitl [HL]; · iexact HL
      isplitl [HO]; · iexact HO
      isplitl [TB]; · iexact TB
      isplitl [TS]; · iexact TS
      isplitl [TR]; · iexact TR
      isplitl [SS]; · iexact SS
      isplitl [CB]; · iexact CB
      isplitl [AB]; · iexact AB
      isplitl [Hx]; · iexact Hx
      isplitl [Hw]; · iexact Hw
      isplitl [S0]; · iexact S0
      isplitl [S1]; · iexact S1
      isplitl [B0]; · iexact B0
      isplitl [B1]; · iexact B1
      isplitl [E1]; · iexact E1
      isplitl [E2]; · iexact E2
      isplitl [E3]; · iexact E3
      iexact E4
    isplitl [CR]; · iexact CR
    isplitl [KR00 KR20 KR10 KR01 KR21 KR11]
    · unfold six
      isplitl [KR00]; · iexact KR00
      isplitl [KR20]; · iexact KR20
      isplitl [KR10]; · iexact KR10
      isplitl [KR01]; · iexact KR01
      isplitl [KR21]; · iexact KR21
      iexact KR11
    isplitl [KS00 KS20 KS10 KS01 KS21 KS11]
    · unfold six
      isplitl [KS00]; · iexact KS00
      isplitl [KS20]; · iexact KS20
      isplitl [KS10]; · iexact KS10
      isplitl [KS01]; · iexact KS01
      isplitl [KS21]; · iexact KS21
      iexact KS11
    iexact Hv
  isplitl [E5]; · iexact E5
  iexact E6

theorem leave_intro (c : Dev nD) :
    iprop(bodyLeave m c ∗ semVal ((c : Thread nD τ), .dma (sS 0 0)) 0 ∗ semVal ((c : Thread nD τ), .dma (sS 0 1)) 0) ⊢ bodyPost m ρ c := by
  unfold bodyLeave bodyPost Φ₁ extra owing
  iintro ⟨⟨-, -, ⟨%W, HO⟩, HB, HS, HR, S0, SS, B0, B1, E1, E2, E3, E4, Hv⟩, E5, E6⟩
  ihave Hv := (out_close c (outV m c)) $$ Hv
  isplitl [HB HS HR S0 SS B0 B1 E1 E2 E3 E4 E5 E6]
  · isplitl [HB]; · iexact HB
    isplitl [HS HR E1 E2 E3 E4 E5 E6]
    · isplitl [HS]; · iexact HS
      isplitl [HR]; · iexact HR
      isplitl [E1]; · iexact E1
      isplitl [E2]; · iexact E2
      isplitl [E3]; · iexact E3
      isplitl [E4]; · iexact E4
      isplitl [E5]; · iexact E5
      iexact E6
    isplitl [S0 SS]
    · isplitl [S0]; · iexact S0
      iexact SS
    isplitl [B0]; · iexact B0
    iexact B1
  isplitl [HO]
  · iexists W
    isplitr; · (ipureintro; exact fun _ _ => Or.inl trivial)
    iexact HO
  iexists _; isplitr; · (ipureintro; rfl)
  iexact Hv

set_option maxRecDepth 40000 in
/-- The body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _)
      (Memref.whole cc0_scratch0) (Memref.isWhole_whole _) (Memref.whole cc0_scratch1) (Memref.isWhole_whole _) cc0_scratch2 cc0_scratch3 cc0_scratch4) (fun _ => bodyPost m ρ c)
  rw [body_flat, wp_deviceId]
  unfold bodyPre Φ₀ start
  iintro ⟨⟨⟨⟨%K, HR, Hlin⟩, HC, HL, Hx, Hw⟩, ⟨%f0, H0⟩, ⟨%f1, H1⟩⟩, Ho, ⟨%d, %fo, -, Hv⟩⟩
  ihave Ho := (owing_open m ρ c) $$ Ho
  ihave H := (use_intro m c f0 f1 fo K) $$ [HR Hlin HC HL Hx Hw H0 H1 Ho Hv]
  · isplitl [HR]; · iexact HR
    isplitl [Hlin]; · iexact Hlin
    isplitl [HC]; · iexact HC
    isplitl [HL]; · iexact HL
    isplitl [Hx]; · iexact Hx
    isplitl [Hw]; · iexact Hw
    isplitl [H0]; · iexact H0
    isplitl [H1]; · iexact H1
    isplitl [Ho]; · iexact Ho
    iexact Hv
  icases H with ⟨Hu, E⟩
  iapply (st_body m K c fun _ => bodyPost m ρ c)
  isplitl [Hu]; · iexact Hu
  iintro Hl
  iapply (leave_intro m ρ c)
  isplitl [Hl]; · iexact Hl
  iexact E

/-! ## The side conditions -/

theorem ownSemFacts : Pipeline.OwnSemFacts cfg0.spec osem := by decide

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · exact show (levAts L lv : sProp 𝕄) ⊢ MayWait (c : Thread nD τ) (.dma ((cfg0.win w).sem s)) () 0 from by
        rw [MayWait_zero]; iintro -; iempintro

theorem half_x (c : Dev nD) : (((c : Thread nD τ).loc main_arg0) ↦{fullShare} m ((c : Thread nD τ).loc main_arg0) : sProp 𝕄) ⊢ iprop(xAny m c ∗ xAny m c) := by
  refine (pointsTo_share (PosShare.mem_left_op_right fullShare)).1.trans ?_
  unfold xAny xIn
  iintro ⟨H, H'⟩
  isplitl [H]
  · iexists _; iexact H
  · iexists _; iexact H'
theorem half_w (c : Dev nD) : (((c : Thread nD τ).loc main_arg1) ↦{fullShare} m ((c : Thread nD τ).loc main_arg1) : sProp 𝕄) ⊢ iprop(wAny m c ∗ wAny m c) := by
  refine (pointsTo_share (PosShare.mem_left_op_right fullShare)).1.trans ?_
  unfold wAny wIn
  iintro ⟨H, H'⟩
  isplitl [H]
  · iexists _; iexact H
  · iexists _; iexact H'

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (xAny m c ∗ wAny m c)) := by
  rw [Pipeline.unscopedRestP_none, unscopedRest0_eq]
  iintro ⟨⟨Hx, Hw⟩, Hlev, Hcr, -, HG⟩
  ihave Hc := (creds (F := F) c) $$ Hcr
  ihave Hx := (half_x m c) $$ Hx
  ihave Hw := (half_w m c) $$ Hw
  icases Hx with ⟨Hx, Hx'⟩
  icases Hw with ⟨Hw, Hw'⟩
  imodintro
  unfold start G'
  isplitr [Hx' Hw']
  · isplitl [HG]; · iexact HG
    isplitl [Hc]; · iexact Hc
    isplitl [Hlev]; · iexact Hlev
    isplitl [Hx]; · iexact Hx
    iexact Hw
  · isplitl [Hx']; · iexact Hx'
    iexact Hw'

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨HB, HS, Hs, Hb⟩
  ihave HS := (sems_close (F := F) c) $$ HS
  ihave Hs := (slots_join (F := F) c) $$ Hs
  ihave Hb := (bufs_join (F := F) c) $$ Hb
  isplitl [HB]; · iexact HB
  isplitl [HS]; · iexact HS
  isplitl [Hs]; · iexact Hs
  iexact Hb

/-- The arguments as the run left them. -/
def argsAt (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)

theorem args_read (c : Dev nD) (s' : Phys nD τ sig (Elt F)) : iprop((xAny m c ∗ wAny m c) ∗ SI s') ⊢ (iprop(⌜argsAt m c s'.mem⌝) : sProp 𝕄) := by
  have hx : ∀ q, iprop(SI s' ∗ (xM.view.loc (c : Thread nD τ) ↦{q} xIn m c)) ⊢ (iprop(⌜s'.mem.mem (xM.view.loc (c : Thread nD τ)) = xIn m c⌝) : sProp 𝕄) := fun q =>
    SI_pointsTo_agree.trans (BI.pure_mono fun h => funext fun i => h i (Finset.mem_univ i))
  have hw : ∀ q, iprop(SI s' ∗ (wM.view.loc (c : Thread nD τ) ↦{q} wIn m c)) ⊢ (iprop(⌜s'.mem.mem (wM.view.loc (c : Thread nD τ)) = wIn m c⌝) : sProp 𝕄) := fun q =>
    SI_pointsTo_agree.trans (BI.pure_mono fun h => funext fun i => h i (Finset.mem_univ i))
  unfold xAny wAny
  iintro ⟨⟨⟨%q, Hx⟩, ⟨%q', Hw⟩⟩, HS⟩
  ihave %h := (hx q) $$ [HS Hx]
  · isplitl [HS]; · iexact HS
    iexact Hx
  ihave %h' := (hw q') $$ [HS Hw]
  · isplitl [HS]; · iexact HS
    iexact Hw
  ipureintro; exact ⟨h, h'⟩

/-! ## The run -/

/-- What every run ends in. -/
def QC : PUnit × MemSt nD τ sig (Elt F) → Prop := fun r =>
  (∀ c : Dev nD, r.2.mem ((c : Thread nD τ).loc main_v1) = outOf (outV m c)) ∧ (∀ c : Dev nD, argsAt m c r.2) ∧ r.2.sem = fun _ => 0

theorem arr_end (c : Dev nD) : (dats m ρ 0 c).arrAt (0 : Fin 1) cfg0.N = outOf (outV m c) := by
  refine (dats m ρ 0 c).arrAt_eq_of_cover 0 (outOf (outV m c)) (fun t _ => ?_) fun i => ⟨t0_0, flush0_0 _, ?_⟩
  · obtain rfl := fin_N0 t
    have ha : (dats m ρ 0 c).after 0 t0_0 = outOf (outV m c) := by dsimp only [dats]
    unfold Pipeline.Dat.flushed
    rw [ha]
    generalize outOf (outV m c) = G
    funext j
    show G _ = G _
    refine congrArg G (funext fun a => Fin.ext ?_)
    show (j a).val = 0 * S1024x8192.size a + 1 * (j a).val
    omega
  · show i ∈ ((View.whole main_v1).slice (win0_0.rect t0_0)).set
    rw [View.set_slice_whole, Rect.mem_set_unit]
    have e : ∀ a, win0_0.index t0_0 a * win0_0.size a = 0 ∧ win0_0.xsize (grid0.coords t0_0) a = S1024x8192.size a := by decide +kernel
    intro a
    show win0_0.index t0_0 a * win0_0.size a ≤ (i a : Nat) ∧ (i a : Nat) < win0_0.index t0_0 a * win0_0.size a + win0_0.xsize (grid0.coords t0_0) a
    rw [(e a).1, (e a).2, Nat.zero_add]
    exact ⟨Nat.zero_le _, (i a).isLt⟩

set_option maxRecDepth 40000 in
/-- Every fair execution of the four devices ends, with the results at the computed contents, the arguments as they were
    and every counter at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show _ ⊢ iprop(BI.own (ER (initOf cells allToks)) ∗ BI.own (((Emb.inr : Emb Counters (UB × Counters)).trans embR) 1)) from by unfold ER; exact own_pair_emb (embR : Emb (UB × Counters) 𝕄) _ _) $$ HX
      icases HX with ⟨HX, -⟩
      imod (fund_cells m) $$ HX with HG
      imodintro
      isplitl [HP]; · iexact HP
      iexact HG)
    (hglob := glob m)
    (hA := fun _ _ => rfl) (hpf := fun _ k => k.elim0)
    (X := start m) (Y := fun c => unscopedSems0 c) (Z := fun c => iprop(xAny m c ∗ wAny m c))
    (hX := start_intro m ρ) (hin := phi0_intro m ρ) (hout := phi1_exit m ρ)
    (QY := fun c s => argsAt m c s ∧ ∀ sm : SemLoc sig, sm.isScoped .tc = false → s.sem ((c.tc : Thread nD τ), sm) = 0)
    (hY := fun c s' => by
      iintro ⟨Hu, Hz, HSI⟩
      ihave %h := (args_read m c s') $$ [Hz HSI]
      · isplitl [Hz]; · iexact Hz
        iexact HSI
      imod (Pipeline.unscopedSems0_read (X := unscopedSems0 c) (c := c) fupd_intro s') $$ [Hu HSI] with ⟨%h', HSI⟩
      · isplitl [Hu]; · iexact Hu
        iexact HSI
      imodintro
      isplitr; · (ipureintro; exact ⟨h, h'⟩)
      iexact HSI)
    (hQ := fun _ h hs => ⟨fun c => ((h c).1 0).trans (arr_end m ρ c), fun c => (h c).2.2.1, sem_eq_zero hs fun c => (h c).2.2.2⟩)

end Cert.KernelIdeal.Mesh

end
-- ==== Proof.Value.lean ====
module

public import proofs.«01_k».proof.Proof.Launch
public import proofs.«01_k».proof.Proof.Gen.UnclippedIdeal
public import Idealize.ShloMosaic.Lib.Layout
public import Idealize.ShloMosaic.Lib.IdealHost
public import Idealize.ShloMosaic.Lib.MatmulPlain
public import Idealize.ShloMosaic.Lib.StackMember

/-! # The value

Over the extended reals. Entry `(r, l)` of the product of the whole arrays is a sum of 4096 terms. Device `c` adds the same
terms up in eight blocks of 512: block `(o, j)` is half `j` of the columns of `x` that device `pm c o` holds, against the
matching rows of `w`. Whatever `c` is, the eight blocks are the eight blocks of the sum, in some order; the sum of extended
reals does not depend on the order. The activation is `y · (1 / (1 + e⁻ʸ))` in the kernel and `y / (1 + e⁻ʸ)` in the
references; the divisor is never zero, so these are one number for every extended real `y`. -/

@[expose] public section

noncomputable section

namespace Cert.KernelIdeal.Mesh

open Cert.KernelIdeal Cert.KernelIdeal.Gen

open Idealize.ShloMosaic
open Idealize.ShloMosaic.TcCoe
open Idealize.SL.Sem
open Idealize.ShloMosaic.ValueIdx
open scoped BigOperators

/-! ## Blocks of the operands -/

section Blocks
variable {F : FTy → Type} [FloatOps F]
variable (m : (ℓ : Loc nD τ sig) → Buf (Elt F) ℓ)

/-- The row of the whole product that row `r` of device `c` is. -/
def rowAt (c : Dev nD) (r : Fin 1024) : Fin 4096 := ⟨1024 * c.val + r.val, by have h : c.val < 4 := c.isLt; have := r.isLt; omega⟩
/-- The contracted position that position `k` of block `(d, j)` is: `d` the device that holds these columns. -/
def midAt (d : Dev nD) (j : Fin 2) (k : Fin 512) : Fin 4096 :=
  ⟨1024 * d.val + 512 * j.val + k.val, by have h : d.val < 4 := d.isLt; have := j.isLt; have := k.isLt; omega⟩
/-- The column that column `l` of chunk `q` is. -/
def colAt (q : Fin 4) (l : Fin 2048) : Fin 8192 := ⟨2048 * q.val + l.val, by have := q.isLt; have := l.isLt; omega⟩

variable {m} {X : UnclippedIdeal.S4096x4096.Idx → Elt F .f32} {W : S4096x8192.Idx → Elt F .f32}

theorem xval_whole (hX : ∀ d : Dev nD, m ((d : Thread nD τ).loc main_arg0) = Layout.block ⟨2, ![4096, 1024]⟩ ⟨2, ![4096, 4096]⟩ 1 4 d X)
    (c : Dev nD) (o : Fin 4) (j : Fin 2) (r : Fin 1024) (k : Fin 512) :
    xval m c o j (ix2 r k) = X (ix2 (rowAt c r) (midAt (pm c o) j k)) := by
  show m ((pm c o : Thread nD τ).loc main_arg0) _ = _
  rw [hX, Layout.block_apply]
  refine congrArg X (funext fun a => Fin.ext ?_)
  fin_cases a
  · show 1024 * (pe (pm c o) o).val + 1 * r.val = 1024 * c.val + r.val
    rw [pe_pm]; omega
  · show (pm c o).val * 1024 + (512 * j.val + 1 * k.val) = 1024 * (pm c o).val + 512 * j.val + k.val
    omega

theorem wval_whole (hW : ∀ d : Dev nD, m ((d : Thread nD τ).loc main_arg1) = W)
    (c : Dev nD) (o : Fin 4) (j : Fin 2) (q : Fin 4) (k : Fin 512) (l : Fin 2048) :
    wval m c o j q (ix2 k l) = W (ix2 (midAt (pm c o) j k) (colAt q l)) := by
  show m ((c : Thread nD τ).loc main_arg1) _ = _
  rw [hW]
  refine congrArg W (funext fun a => Fin.ext ?_)
  fin_cases a
  · show 1024 * (pm c o).val + 512 * j.val + 1 * k.val = 1024 * (pm c o).val + 512 * j.val + k.val
    omega
  · show 2048 * q.val + 1 * l.val = 2048 * q.val + l.val
    omega

end Blocks

/-! ## The sum -/

/-- A sum over 4096 positions, by blocks of 512. -/
theorem sum_blocks (T : Fin 4096 → EReal) :
    ∑ n, T n = ∑ d : Dev nD, (∑ k : Fin 512, T (midAt d 0 k) + ∑ k : Fin 512, T (midAt d 1 k)) := by
  have e1 : ∑ n, T n = ∑ d : Fin 4, ∑ n : Fin 1024, T ⟨1024 * d.val + n.val, by have := d.isLt; have := n.isLt; omega⟩ := by
    rw [← (finProdFinEquiv (m := 4) (n := 1024)).sum_comp, Fintype.sum_prod_type]
    exact Finset.sum_congr rfl fun d _ => Finset.sum_congr rfl fun n _ => congrArg T (Fin.ext (Nat.add_comm _ _))
  rw [e1]
  refine Finset.sum_congr rfl fun d _ => ?_
  rw [← (finProdFinEquiv (m := 2) (n := 512)).sum_comp, Fintype.sum_prod_type, Fin.sum_univ_two]
  refine congrArg₂ (· + ·) ?_ ?_ <;>
    exact Finset.sum_congr rfl fun k _ => congrArg T (Fin.ext (by
      simp only [finProdFinEquiv, midAt, Equiv.coe_fn_mk, Fin.val_zero, Fin.val_one]; omega))

/-- The eight blocks in the order device `c` takes them. -/
theorem sum_order (G : Dev nD → Fin 2 → EReal) (c : Dev nD) :
    G (pm c 0) 0 + G (pm c 0) 1 + G (pm c 1) 0 + G (pm c 3) 0 + G (pm c 1) 1 + G (pm c 3) 1 + G (pm c 2) 0 + G (pm c 2) 1
      = ∑ d : Dev nD, (G d 0 + G d 1) := by
  have hs : ∑ d : Dev nD, (G d 0 + G d 1) = ∑ o : Fin 4, (G (pm c o) 0 + G (pm c o) 1) := by
    have hb : Function.Bijective fun o : Fin 4 => pm c o := by revert c; decide +kernel
    exact (hb.sum_comp fun d => G d 0 + G d 1).symm
  rw [hs, Fin.sum_univ_four]
  abel

/-! ## The activation -/

theorem exp_nonneg (y : EReal) : 0 ≤ Ideal.exp y := by
  induction y using EReal.rec with
  | bot => simp
  | coe r => rw [Ideal.exp_coe]; exact EReal.coe_nonneg.mpr (Real.exp_pos r).le
  | top => simp

theorem act_eq (y : EReal) : y * Ideal.logistic y = Ideal.div y (1 + Ideal.exp (-y)) := by
  have h1 : (1 : EReal) ≤ 1 + Ideal.exp (-y) := le_add_of_nonneg_right (exp_nonneg _)
  have hne : 1 + Ideal.exp (-y) ≠ 0 := fun e => absurd (e ▸ h1) (by simp)
  exact Ideal.mul_one_div hne

/-! ## The result -/

/-- The product of the whole arrays, put through the activation: what the reference without the clip computes. -/
def whole (X : UnclippedIdeal.S4096x4096.Idx → EReal) (W : S4096x8192.Idx → EReal) : S4096x8192.Idx → EReal :=
  let y : FVec Ideal UnclippedIdeal.S4096x8192 .f32 :=
    Host.dotGeneral (φ₁ := .f32) (φ₂ := .f32) UnclippedIdeal.dot_S4096x4096_S4096x8192_S4096x8192_1_0_0_1_n_n none X W
  Host.divf y (addf (broadcastInDim UnclippedIdeal.S4096x8192 ![] UnclippedIdeal.Gen.bcast_S_S4096x8192
    (constant UnclippedIdeal.S_ .f32 0x3F800000#32)) (Host.exp (Host.negf y)))

/-- An entry of it. -/
theorem whole_apply (X : UnclippedIdeal.S4096x4096.Idx → EReal) (W : S4096x8192.Idx → EReal) (r : Fin 4096) (l : Fin 8192) :
    whole X W (ix2 r l) = Ideal.div (∑ n : Fin 4096, X (ix2 r n) * W (ix2 n l))
      (1 + Ideal.exp (-(∑ n : Fin 4096, X (ix2 r n) * W (ix2 n l)))) := by
  have hy : Host.dotGeneral (F := Ideal) (φ₁ := .f32) (φ₂ := .f32)
      UnclippedIdeal.dot_S4096x4096_S4096x8192_S4096x8192_1_0_0_1_n_n none X W (ix2 r l)
      = ∑ n : Fin 4096, X (ix2 r n) * W (ix2 n l) := Idealize.ShloMosaic.StackMember.dotGeneral_plain_apply none X W r l
  unfold whole
  rw [hostDivf_apply, addf_apply, broadcastInDim_scalar_apply, constant_apply, Ideal.ofBits_one_f32, hy]
  show Ideal.div _ (1 + Ideal.exp (-(Host.dotGeneral (F := Ideal) (φ₁ := .f32) (φ₂ := .f32)
      UnclippedIdeal.dot_S4096x4096_S4096x8192_S4096x8192_1_0_0_1_n_n none X W (ix2 r l)))) = _
  rw [hy]

section Result
variable {m : (ℓ : Loc nD τ sig) → Buf (Elt Ideal) ℓ} {X : UnclippedIdeal.S4096x4096.Idx → EReal} {W : S4096x8192.Idx → EReal}

/-- One block's product, from the whole arrays. -/
theorem prod_whole (hX : ∀ d : Dev nD, m ((d : Thread nD τ).loc main_arg0) = Layout.block ⟨2, ![4096, 1024]⟩ ⟨2, ![4096, 4096]⟩ 1 4 d X)
    (hW : ∀ d : Dev nD, m ((d : Thread nD τ).loc main_arg1) = W)
    (c : Dev nD) (o : Fin 4) (j : Fin 2) (q : Fin 4) (r : Fin 1024) (l : Fin 2048) :
    prod m c o j q (ix2 r l)
      = ∑ k : Fin 512, X (ix2 (rowAt c r) (midAt (pm c o) j k)) * W (ix2 (midAt (pm c o) j k) (colAt q l)) := by
  have h := Ideal.matmul_plain_apply (φ₁ := .f32) (φ₂ := .f32) none (xval m c o j) (wval m c o j q)
    (constant S1024x2048 .f32 0x00000000#32) r l
  rw [constant_apply, Ideal.ofBits_zero_f32, zero_add] at h
  refine Eq.trans h (Finset.sum_congr rfl fun k _ => ?_)
  rw [xval_whole hX, wval_whole hW]

/-- What device `c` computes of chunk `q`. -/
theorem outV_whole (hX : ∀ d : Dev nD, m ((d : Thread nD τ).loc main_arg0) = Layout.block ⟨2, ![4096, 1024]⟩ ⟨2, ![4096, 4096]⟩ 1 4 d X)
    (hW : ∀ d : Dev nD, m ((d : Thread nD τ).loc main_arg1) = W) (c : Dev nD) (q : Fin 4) (r : Fin 1024) (l : Fin 2048) :
    outV m c q (ix2 r l) = whole X W (ix2 (rowAt c r) (colAt q l)) := by
  have hsum : addV m c 2 1 (sum7 m c) q (ix2 r l) = ∑ n : Fin 4096, X (ix2 (rowAt c r) n) * W (ix2 n (colAt q l)) := by
    rw [sum_blocks, ← sum_order (fun d j => ∑ k : Fin 512, X (ix2 (rowAt c r) (midAt d j k)) * W (ix2 (midAt d j k) (colAt q l))) c]
    unfold sum7 sum6 sum5 sum4 sum3 sum2 sum1 addV
    simp only [addf_apply, prod_whole hX hW]
  rw [whole_apply, ← hsum, ← act_eq]
  rfl

/-- The device's result is its rows of the whole. -/
theorem outOf_whole (hX : ∀ d : Dev nD, m ((d : Thread nD τ).loc main_arg0) = Layout.block ⟨2, ![4096, 1024]⟩ ⟨2, ![4096, 4096]⟩ 1 4 d X)
    (hW : ∀ d : Dev nD, m ((d : Thread nD τ).loc main_arg1) = W) (c : Dev nD) :
    outOf (outV m c) = Layout.block ⟨2, ![1024, 8192]⟩ ⟨2, ![4096, 8192]⟩ 0 4 c (whole X W) := by
  funext i
  have hi : inChunk i = ix2 (n0 := 1024) (n1 := 2048) (i 0) ⟨(i 1).val % 2048, Nat.mod_lt _ (by decide)⟩ := by
    funext a; fin_cases a <;> rfl
  rw [Layout.block_apply]
  refine (congrArg (outV m c (chunkOf i)) hi).trans ((outV_whole hX hW c _ _ _).trans ?_)
  refine congrArg (whole X W) (funext fun a => Fin.ext ?_)
  fin_cases a
  · show 1024 * c.val + (i 0).val = c.val * 1024 + (i 0).val
    omega
  · show 2048 * ((i 1).val / 2048) + (i 1).val % 2048 = (i 1).val
    omega

end Result

end Cert.KernelIdeal.Mesh

end
-- ==== Proof.Clip.lean ====
module

public import proofs.«01_k».proof.Proof.Value
public import proofs.«01_k».proof.Proof.Gen.ReferenceIdeal
public import proofs.«01_k».proof.Proof.Gen.On_in_range
public import Idealize.ShloMosaic.Lib.Affine

/-! # The clip

The reference clips the product to [-60, 60] inside the exponential. At an entry where the product lies in that range the clip
changes nothing, so there the reference is the one without the clip. -/

@[expose] public section

noncomputable section

namespace Cert.KernelIdeal.Mesh

open Idealize.ShloMosaic
open Idealize.ShloMosaic.ValueIdx
open scoped BigOperators

/-- What the reference computes of the whole arrays. -/
def clipped (X : ReferenceIdeal.S4096x4096.Idx → EReal) (W : ReferenceIdeal.S4096x8192.Idx → EReal) :
    ReferenceIdeal.S4096x8192.Idx → EReal :=
  let y : FVec Ideal ReferenceIdeal.S4096x8192 .f32 :=
    Host.dotGeneral (φ₁ := .f32) (φ₂ := .f32) ReferenceIdeal.dot_S4096x4096_S4096x8192_S4096x8192_1_0_0_1_n_n none X W
  let all (b : BitVec 32) : FVec Ideal ReferenceIdeal.S4096x8192 .f32 :=
    broadcastInDim ReferenceIdeal.S4096x8192 ![] ReferenceIdeal.Gen.bcast_S_S4096x8192 (constant ReferenceIdeal.S_ .f32 b)
  Host.divf y (addf (all 0x3F800000#32)
    (Host.exp (Host.negf (minimumf (all 0x42700000#32) (maximumf (all 0xC2700000#32) y)))))

/-- An entry of it. -/
theorem clipped_apply (X : ReferenceIdeal.S4096x4096.Idx → EReal) (W : ReferenceIdeal.S4096x8192.Idx → EReal)
    (r : Fin 4096) (l : Fin 8192) :
    clipped X W (ix2 r l) = Ideal.div (∑ n : Fin 4096, X (ix2 r n) * W (ix2 n l))
      (1 + Ideal.exp (-(min (Ideal.ofBits .f32 0x42700000#32)
        (max (Ideal.ofBits .f32 0xC2700000#32) (∑ n : Fin 4096, X (ix2 r n) * W (ix2 n l)))))) := by
  have hy : Host.dotGeneral (F := Ideal) (φ₁ := .f32) (φ₂ := .f32)
      ReferenceIdeal.dot_S4096x4096_S4096x8192_S4096x8192_1_0_0_1_n_n none X W (ix2 r l)
      = ∑ n : Fin 4096, X (ix2 r n) * W (ix2 n l) := Idealize.ShloMosaic.StackMember.dotGeneral_plain_apply none X W r l
  have he : ∀ (a : FVec Ideal ReferenceIdeal.S4096x8192 .f32) i, Host.exp (Host.negf a) i = Ideal.exp (-(a i)) := fun _ _ => rfl
  unfold clipped
  rw [hostDivf_apply, addf_apply, he, minimumf_apply, maximumf_apply]
  beta_reduce
  rw [broadcastInDim_scalar_apply, broadcastInDim_scalar_apply, broadcastInDim_scalar_apply, constant_apply, constant_apply,
    constant_apply, Ideal.ofBits_one_f32, hy]

/-- What it is for an entry to be in range. -/
theorem in_range (X : ReferenceIdeal.S4096x4096.Idx → EReal) (W : ReferenceIdeal.S4096x8192.Idx → EReal)
    (r : Fin 4096) (l : Fin 8192) (h : On_in_range.fn (F := Ideal) X W (ix2 r l) = 1#1) :
    Ideal.ofBits .f32 0xC2700000#32 ≤ ∑ n : Fin 4096, X (ix2 r n) * W (ix2 n l)
      ∧ ∑ n : Fin 4096, X (ix2 r n) * W (ix2 n l) ≤ Ideal.ofBits .f32 0x42700000#32 := by
  have hy : Host.dotGeneral (F := Ideal) (φ₁ := .f32) (φ₂ := .f32)
      On_in_range.dot_S4096x4096_S4096x8192_S4096x8192_1_0_0_1_n_n none X W (ix2 r l)
      = ∑ n : Fin 4096, X (ix2 r n) * W (ix2 n l) := Idealize.ShloMosaic.StackMember.dotGeneral_plain_apply none X W r l
  have hand : ∀ (a b : IVec On_in_range.S4096x8192 1) i, andi a b i = IntOp.andi (a i) (b i) := fun _ _ _ => rfl
  unfold On_in_range.fn at h
  dsimp only at h
  rw [hand] at h
  obtain ⟨h1, h2⟩ := IntOp.andi_eq_one.mp h
  rw [cmpf_apply, Ideal.cmpf_def, broadcastInDim_scalar_apply, constant_apply, hy] at h1 h2
  have hle : ∀ a b : EReal, BitVec.ofBool (decide (a ≤ b)) = 1#1 → a ≤ b := fun a b h => by
    by_contra hn
    rw [decide_eq_false hn] at h
    exact absurd h (by decide)
  exact ⟨hle _ _ h1, hle _ _ h2⟩

/-- Where the product is in range, the two references agree. -/
theorem clipped_eq (X : ReferenceIdeal.S4096x4096.Idx → EReal) (W : ReferenceIdeal.S4096x8192.Idx → EReal)
    (i : ReferenceIdeal.S4096x8192.Idx) (h : On_in_range.fn (F := Ideal) X W i = 1#1) : clipped X W i = whole X W i := by
  obtain ⟨r, l, rfl⟩ : ∃ (r : Fin 4096) (l : Fin 8192), i = ix2 r l := ⟨i 0, i 1, eq_ix2 i⟩
  obtain ⟨hlo, hhi⟩ := in_range X W r l h
  rw [clipped_apply, whole_apply, max_eq_right hlo, min_eq_right hhi]

end Cert.KernelIdeal.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.UnclippedIdeal.Run
public import proofs.«01_k».proof.Proof.Gen.On_in_range
public import proofs.«01_k».proof.Proof.Gen.ReferenceIdeal.Run
public import proofs.«01_k».proof.Proof.Launch
public import proofs.«01_k».proof.Proof.Bits.Launch
public import proofs.«01_k».proof.Proof.Value
public import proofs.«01_k».proof.Proof.Clip
public import Idealize.ShloMosaic.Adequacy
public import Idealize.ShloMosaic.Init

@[expose] public section

noncomputable section

namespace Cert.Proof

open Idealize.ShloMosaic Idealize.SL.Sem Cert.Kernel

/-- The kernel runs, as printed. -/
theorem frame_kernel : Cert.quiescent_Kernel (hKernel := Cert.Kernel.Gen.facts) := fun m g _ =>
  (θ_run (Cert.Kernel.defs (F := Bits)) _ _).mono (fun _ h => ⟨fun c => h.2.1 c, h.2.2⟩) (Cert.Kernel.Mesh.run_main (F := Bits) m g)

/-- The kernel runs over the extended reals. -/
theorem frame_ideal : Cert.quiescent_KernelIdeal (hKernelIdeal := Cert.KernelIdeal.Gen.facts) := fun m g _ =>
  (θ_run (Cert.KernelIdeal.defs (F := Ideal)) _ _).mono (fun _ h => ⟨fun c => h.2.1 c, h.2.2⟩) (Cert.KernelIdeal.Mesh.run_main (F := Ideal) m g)

/-- The reference runs. -/
theorem frame_reference : Cert.quiescent_ReferenceIdeal (hReferenceIdeal := Cert.ReferenceIdeal.Gen.facts) := fun m g _ =>
  (θ_run (Cert.ReferenceIdeal.defs (F := Ideal)) _ _).mono (fun _ h => ⟨fun c => (h c).2, sem_eq_zero_of_no_sems rfl _⟩)
    (Cert.ReferenceIdeal.Value.run (F := Ideal) m g)

/-- The reference without the clip runs. -/
theorem frame_unclipped : Cert.quiescent_UnclippedIdeal (hUnclippedIdeal := Cert.UnclippedIdeal.Gen.facts) := fun m g _ =>
  (θ_run (Cert.UnclippedIdeal.defs (F := Ideal)) _ _).mono (fun _ h => ⟨fun c => (h c).2, sem_eq_zero_of_no_sems rfl _⟩)
    (Cert.UnclippedIdeal.Value.run (F := Ideal) m g)

/-- Each device ends holding its rows of what the reference without the clip computes of the whole arrays. -/
theorem algebraic_unclipped : Cert.algebraic_KernelIdeal_UnclippedIdeal (hKernelIdeal := Cert.KernelIdeal.Gen.facts)
    (hUnclippedIdeal := Cert.UnclippedIdeal.Gen.facts) := fun m g m' g' _ hio =>
  ⟨Cert.KernelIdeal.Mesh.whole
      (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1)),
    (θ_run (Cert.KernelIdeal.defs (F := Ideal)) _ _).mono
      (fun _ h c => ⟨(h.1 c).trans (Cert.KernelIdeal.Mesh.outOf_whole (fun d => (hio d).1) (fun d => (hio d).2) c), h.2.1 c⟩)
      (Cert.KernelIdeal.Mesh.run_main (F := Ideal) m g),
    (θ_run (Cert.UnclippedIdeal.defs (F := Ideal)) _ _).mono (fun _ h => h 0) (Cert.UnclippedIdeal.Value.run (F := Ideal) m' g')⟩

/-- Each device ends holding its rows of what the reference computes, at the entries where the clip changes nothing. -/
theorem algebraic_reference : Cert.algebraic_KernelIdeal_ReferenceIdeal_on_in_range (hKernelIdeal := Cert.KernelIdeal.Gen.facts)
    (hReferenceIdeal := Cert.ReferenceIdeal.Gen.facts) (hOn_in_range := Cert.On_in_range.Gen.facts) := fun m g m' g' _ hio =>
  ⟨Cert.KernelIdeal.Mesh.clipped
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨fun i hi => (congrFun ((h.1 c).trans
        (Cert.KernelIdeal.Mesh.outOf_whole (fun d => (hio d).1) (fun d => (hio d).2) c)) i).trans
          (Cert.KernelIdeal.Mesh.clipped_eq _ _ _ hi).symm, h.2.1 c⟩)
      (Cert.KernelIdeal.Mesh.run_main (F := Ideal) m g),
    (θ_run (Cert.ReferenceIdeal.defs (F := Ideal)) _ _).mono (fun _ h => ⟨fun i _ => congrFun (h 0).1 i, (h 0).2⟩)
      (Cert.ReferenceIdeal.Value.run (F := Ideal) m' g')⟩

theorem claim : Cert.Claim := ⟨Cert.Kernel.Gen.facts, Cert.KernelIdeal.Gen.facts, Cert.UnclippedIdeal.Gen.facts,
  Cert.ReferenceIdeal.Gen.facts, Cert.On_in_range.Gen.facts,
  frame_kernel, frame_ideal, frame_unclipped, frame_reference, trivial, algebraic_unclipped, algebraic_reference⟩

end Cert.Proof

end
